-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v411_5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x128x192 : Shape := ⟨3, ![64, 128, 192]⟩
abbrev S64x5 : Shape := ⟨2, ![64, 5]⟩
abbrev S_ : Shape := ⟨0, ![]⟩
abbrev S184x8 : Shape := ⟨2, ![184, 8]⟩
abbrev S8x128 : Shape := ⟨2, ![8, 128]⟩
abbrev S32x128 : Shape := ⟨2, ![32, 128]⟩
abbrev S128 : Shape := ⟨1, ![128]⟩
abbrev S2x256x128 : Shape := ⟨3, ![2, 256, 128]⟩
abbrev S128x1024 : Shape := ⟨2, ![128, 1024]⟩
abbrev S1024 : Shape := ⟨1, ![1024]⟩
abbrev S1024x40 : Shape := ⟨2, ![1024, 40]⟩
abbrev S10x40 : Shape := ⟨2, ![10, 40]⟩
abbrev S40 : Shape := ⟨1, ![40]⟩

class Facts : Prop where
  bcast_S_S64x5 : S_.BroadcastsInDim S64x5 (![] : Fin 0 → Fin S64x5.rank)
  reducesTo_S64x5_S_d0_1 : S64x5.ReducesTo [0, 1] S_
  h_S_ : 0 < S_.numel
  bcast_S_S64x128x192 : S_.BroadcastsInDim S64x128x192 (![] : Fin 0 → Fin S64x128x192.rank)
  reducesTo_S64x128x192_S_d0_1_2 : S64x128x192.ReducesTo [0, 1, 2] S_
  bcast_S_S2x256x128 : S_.BroadcastsInDim S2x256x128 (![] : Fin 0 → Fin S2x256x128.rank)
  reducesTo_S2x256x128_S_d0_1_2 : S2x256x128.ReducesTo [0, 1, 2] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S1024 : S_.BroadcastsInDim S1024 (![] : Fin 0 → Fin S1024.rank)
  reducesTo_S1024_S_d0 : S1024.ReducesTo [0] S_
  bcast_S_S1024x40 : S_.BroadcastsInDim S1024x40 (![] : Fin 0 → Fin S1024x40.rank)
  reducesTo_S1024x40_S_d0_1 : S1024x40.ReducesTo [0, 1] S_

variable [Facts]

def fn_part2 {F : FTy → Type} [FloatOps F] (main_arg16 : FVec F S1024x40 .f32) (main_v30 : IVec S_ 1) (main_v33 : IVec S1024 1) : IVec S_ 1 :=
  let main_c_12 : IVec S_ 1 := constantI S_ 1 1#1
  let main_v34 : IVec S_ 1 := (fun x v => Host.reduce IntOp.andi x v reducesTo_S1024_S_d0 h_S_) main_v33 main_c_12
  let main_v35 : IVec S_ 1 := andi main_v30 main_v34
  let main_v36 : FVec F S1024x40 .f32 := Host.absf main_arg16
  let main_cst_13 : FVec F S_ .f32 := constant S_ .f32 0x7F800000#32
  let main_v37 : FVec F S1024x40 .f32 := broadcastInDim S1024x40 ![] bcast_S_S1024x40 main_cst_13
  let main_v38 : IVec S1024x40 1 := cmpf .olt main_v36 main_v37
  let main_c_14 : IVec S_ 1 := constantI S_ 1 1#1
  let main_v39 : IVec S_ 1 := (fun x v => Host.reduce IntOp.andi x v reducesTo_S1024x40_S_d0_1 h_S_) main_v38 main_c_14
  let main_v40 : IVec S_ 1 := andi main_v35 main_v39
  main_v40

def fn_part1 {F : FTy → Type} [FloatOps F] (main_arg12 : FVec F S128x1024 .f32) (main_arg13 : FVec F S1024 .f32) (main_arg14 : FVec F S1024 .f32) (main_arg16 : FVec F S1024x40 .f32) (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  let main_v21 : FVec F S128x1024 .f32 := Host.absf main_arg12
  let main_cst_7 : FVec F S_ .f32 := constant S_ .f32 0x7F800000#32
  let main_v22 : FVec F S128x1024 .f32 := broadcastInDim S128x1024 ![] bcast_S_S128x1024 main_cst_7
  let main_v23 : IVec S128x1024 1 := cmpf .olt main_v21 main_v22
  let main_c_8 : IVec S_ 1 := constantI S_ 1 1#1
  let main_v24 : IVec S_ 1 := (fun x v => Host.reduce IntOp.andi x v reducesTo_S128x1024_S_d0_1 h_S_) main_v23 main_c_8
  let main_v25 : IVec S_ 1 := andi main_v20 main_v24
  let main_v26 : FVec F S1024 .f32 := Host.absf main_arg13
  let main_cst_9 : FVec F S_ .f32 := constant S_ .f32 0x7F800000#32
  let main_v27 : FVec F S1024 .f32 := broadcastInDim S1024 ![] bcast_S_S1024 main_cst_9
  let main_v28 : IVec S1024 1 := cmpf .olt main_v26 main_v27
  let main_c_10 : IVec S_ 1 := constantI S_ 1 1#1
  let main_v29 : IVec S_ 1 := (fun x v => Host.reduce IntOp.andi x v reducesTo_S1024_S_d0 h_S_) main_v28 main_c_10
  let main_v30 : IVec S_ 1 := andi main_v25 main_v29
  let main_v31 : FVec F S1024 .f32 := Host.absf main_arg14
  let main_cst_11 : FVec F S_ .f32 := constant S_ .f32 0x7F800000#32
  let main_v32 : FVec F S1024 .f32 := broadcastInDim S1024 ![] bcast_S_S1024 main_cst_11
  let main_v33 : IVec S1024 1 := cmpf .olt main_v31 main_v32
  fn_part2 (F := F) main_arg16 main_v30 main_v33

def fn {F : FTy → Type} [FloatOps F] (main_arg0 : FVec F S64x128x192 .f32) (main_arg1 : IVec S64x5 32) (main_arg2 : IVec S_ 1) (main_arg3 : FVec F S184x8 .f32) (main_arg4 : FVec F S8x128 .f32) (main_arg5 : FVec F S32x128 .f32) (main_arg6 : FVec F S128 .f32) (main_arg7 : FVec F S8x128 .f32) (main_arg8 : FVec F S32x128 .f32) (main_arg9 : FVec F S128 .f32) (main_arg10 : FVec F S2x256x128 .f32) (main_arg11 : FVec F S128 .f32) (main_arg12 : FVec F S128x1024 .f32) (main_arg13 : FVec F S1024 .f32) (main_arg14 : FVec F S1024 .f32) (main_arg15 : FVec F S1024 .f32) (main_arg16 : FVec F S1024x40 .f32) (main_arg17 : FVec F S10x40 .f32) (main_arg18 : FVec F S40 .f32) : IVec S_ 1 :=
  let main_c : IVec S_ 32 := constantI S_ 32 0#32
  let main_v0 : IVec S64x5 32 := broadcastInDim S64x5 ![] bcast_S_S64x5 main_c
  let main_v1 : IVec S64x5 1 := cmpi .sge main_arg1 main_v0
  let main_c_0 : IVec S_ 32 := constantI S_ 32 184#32
  let main_v2 : IVec S64x5 32 := broadcastInDim S64x5 ![] bcast_S_S64x5 main_c_0
  let main_v3 : IVec S64x5 1 := cmpi .slt main_arg1 main_v2
  let main_v4 : IVec S64x5 1 := andi main_v1 main_v3
  let main_c_1 : IVec S_ 1 := constantI S_ 1 1#1
  let main_v5 : IVec S_ 1 := (fun x v => Host.reduce IntOp.andi x v reducesTo_S64x5_S_d0_1 h_S_) main_v4 main_c_1
  let main_v6 : FVec F S64x128x192 .f32 := Host.absf main_arg0
  let main_cst : FVec F S_ .f32 := constant S_ .f32 0x7F800000#32
  let main_v7 : FVec F S64x128x192 .f32 := broadcastInDim S64x128x192 ![] bcast_S_S64x128x192 main_cst
  let main_v8 : IVec S64x128x192 1 := cmpf .olt main_v6 main_v7
  let main_c_2 : IVec S_ 1 := constantI S_ 1 1#1
  let main_v9 : IVec S_ 1 := (fun x v => Host.reduce IntOp.andi x v reducesTo_S64x128x192_S_d0_1_2 h_S_) main_v8 main_c_2
  let main_v10 : IVec S_ 1 := andi main_v5 main_v9
  let main_v11 : FVec F S2x256x128 .f32 := Host.absf main_arg10
  let main_cst_3 : FVec F S_ .f32 := constant S_ .f32 0x7F800000#32
  let main_v12 : FVec F S2x256x128 .f32 := broadcastInDim S2x256x128 ![] bcast_S_S2x256x128 main_cst_3
  let main_v13 : IVec S2x256x128 1 := cmpf .olt main_v11 main_v12
  let main_c_4 : IVec S_ 1 := constantI S_ 1 1#1
  let main_v14 : IVec S_ 1 := (fun x v => Host.reduce IntOp.andi x v reducesTo_S2x256x128_S_d0_1_2 h_S_) main_v13 main_c_4
  let main_v15 : IVec S_ 1 := andi main_v10 main_v14
  let main_v16 : FVec F S128 .f32 := Host.absf main_arg11
  fn_part1 (F := F) main_arg12 main_arg13 main_arg14 main_arg16 main_v15 main_v16
-- ==== Kernel.lean ====
abbrev S64x128x192 : Shape := ⟨3, ![64, 128, 192]⟩
abbrev S64x5 : Shape := ⟨2, ![64, 5]⟩
abbrev S_ : Shape := ⟨0, ![]⟩
abbrev S184x8 : Shape := ⟨2, ![184, 8]⟩
abbrev S8x128 : Shape := ⟨2, ![8, 128]⟩
abbrev S32x128 : Shape := ⟨2, ![32, 128]⟩
abbrev S128 : Shape := ⟨1, ![128]⟩
abbrev S2x256x128 : Shape := ⟨3, ![2, 256, 128]⟩
abbrev S128x1024 : Shape := ⟨2, ![128, 1024]⟩
abbrev S1024 : Shape := ⟨1, ![1024]⟩
abbrev S1024x40 : Shape := ⟨2, ![1024, 40]⟩
abbrev S10x40 : Shape := ⟨2, ![10, 40]⟩
abbrev S40 : Shape := ⟨1, ![40]⟩
abbrev S8192x192 : Shape := ⟨2, ![8192, 192]⟩
abbrev S5x64 : Shape := ⟨2, ![5, 64]⟩
abbrev S320x1 : Shape := ⟨2, ![320, 1]⟩
abbrev S1x128 : Shape := ⟨2, ![1, 128]⟩
abbrev S1x192x128 : Shape := ⟨3, ![1, 192, 128]⟩
abbrev S192x128 : Shape := ⟨2, ![192, 128]⟩
abbrev S1x64x128 : Shape := ⟨3, ![1, 64, 128]⟩
abbrev S64x128 : Shape := ⟨2, ![64, 128]⟩
abbrev S1x1024 : Shape := ⟨2, ![1, 1024]⟩
abbrev S1024x1 : Shape := ⟨2, ![1024, 1]⟩
abbrev S1024x4x10 : Shape := ⟨3, ![1024, 4, 10]⟩
abbrev S1024x4x16 : Shape := ⟨3, ![1024, 4, 16]⟩
abbrev S1024x64 : Shape := ⟨2, ![1024, 64]⟩
abbrev S40x10 : Shape := ⟨2, ![40, 10]⟩
abbrev S4x10x10 : Shape := ⟨3, ![4, 10, 10]⟩
abbrev S4x16x16 : Shape := ⟨3, ![4, 16, 16]⟩
abbrev S64x16 : Shape := ⟨2, ![64, 16]⟩
abbrev S4x10 : Shape := ⟨2, ![4, 10]⟩
abbrev S4x16 : Shape := ⟨2, ![4, 16]⟩
abbrev S1x64 : Shape := ⟨2, ![1, 64]⟩
abbrev S64x10 : Shape := ⟨2, ![64, 10]⟩
abbrev S8192x64 : Shape := ⟨2, ![8192, 64]⟩
abbrev S320x184 : Shape := ⟨2, ![320, 184]⟩
abbrev S320x8 : Shape := ⟨2, ![320, 8]⟩
abbrev S64x32 : Shape := ⟨2, ![64, 32]⟩
abbrev S64x8 : Shape := ⟨2, ![64, 8]⟩
abbrev S64x64 : Shape := ⟨2, ![64, 64]⟩
abbrev S128x64 : Shape := ⟨2, ![128, 64]⟩
abbrev S127x64 : Shape := ⟨2, ![127, 64]⟩
abbrev S128x128 : Shape := ⟨2, ![128, 128]⟩
abbrev S8192x128 : Shape := ⟨2, ![8192, 128]⟩
abbrev S8191x128 : Shape := ⟨2, ![8191, 128]⟩
abbrev S8192x1 : Shape := ⟨2, ![8192, 1]⟩
abbrev S64x128x128 : Shape := ⟨3, ![64, 128, 128]⟩
abbrev S1x128x128 : Shape := ⟨3, ![1, 128, 128]⟩
abbrev S128x64x128 : Shape := ⟨3, ![128, 64, 128]⟩
abbrev S128x1 : Shape := ⟨2, ![128, 1]⟩
abbrev S1x1x1024 : Shape := ⟨3, ![1, 1, 1024]⟩
abbrev S1 : Shape := ⟨1, ![1]⟩
abbrev S1x1x1 : Shape := ⟨3, ![1, 1, 1]⟩
abbrev S128x192 : Shape := ⟨2, ![128, 192]⟩
abbrev S8192 : Shape := ⟨1, ![8192]⟩
abbrev S128x64x64 : Shape := ⟨3, ![128, 64, 64]⟩
abbrev S16x64 : Shape := ⟨2, ![16, 64]⟩
abbrev S32x64 : Shape := ⟨2, ![32, 64]⟩

abbrev nBuf : Space → Nat
  | .hbm => 55
  | .vmem => 25
  | .smem => 0
  | _ => 0

abbrev bufTy : (tb : Table) → Fin (tcTables nBuf tb) → BufTy
  | .hbm, ⟨0, _⟩ => ⟨S64x128x192, .f32⟩
  | .hbm, ⟨1, _⟩ => ⟨S64x5, .i32⟩
  | .hbm, ⟨2, _⟩ => ⟨S_, .i1⟩
  | .hbm, ⟨3, _⟩ => ⟨S184x8, .f32⟩
  | .hbm, ⟨4, _⟩ => ⟨S8x128, .f32⟩
  | .hbm, ⟨5, _⟩ => ⟨S32x128, .f32⟩
  | .hbm, ⟨6, _⟩ => ⟨S128, .f32⟩
  | .hbm, ⟨7, _⟩ => ⟨S8x128, .f32⟩
  | .hbm, ⟨8, _⟩ => ⟨S32x128, .f32⟩
  | .hbm, ⟨9, _⟩ => ⟨S128, .f32⟩
  | .hbm, ⟨10, _⟩ => ⟨S2x256x128, .f32⟩
  | .hbm, ⟨11, _⟩ => ⟨S128, .f32⟩
  | .hbm, ⟨12, _⟩ => ⟨S128x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x40, .f32⟩
  | .hbm, ⟨17, _⟩ => ⟨S10x40, .f32⟩
  | .hbm, ⟨18, _⟩ => ⟨S40, .f32⟩
  | .hbm, ⟨19, _⟩ => ⟨S8192x192, .f32⟩
  | .hbm, ⟨20, _⟩ => ⟨S5x64, .i32⟩
  | .hbm, ⟨21, _⟩ => ⟨S320x1, .i32⟩
  | .hbm, ⟨22, _⟩ => ⟨S1x128, .f32⟩
  | .hbm, ⟨23, _⟩ => ⟨S1x128, .f32⟩
  | .hbm, ⟨24, _⟩ => ⟨S1x192x128, .f32⟩
  | .hbm, ⟨25, _⟩ => ⟨S192x128, .f32⟩
  | .hbm, ⟨26, _⟩ => ⟨S1x192x128, .f32⟩
  | .hbm, ⟨27, _⟩ => ⟨S192x128, .f32⟩
  | .hbm, ⟨28, _⟩ => ⟨S1x64x128, .f32⟩
  | .hbm, ⟨29, _⟩ => ⟨S64x128, .f32⟩
  | .hbm, ⟨30, _⟩ => ⟨S1x64x128, .f32⟩
  | .hbm, ⟨31, _⟩ => ⟨S64x128, .f32⟩
  | .hbm, ⟨32, _⟩ => ⟨S1x128, .f32⟩
  | .hbm, ⟨33, _⟩ => ⟨S1x1024, .f32⟩
  | .hbm, ⟨34, _⟩ => ⟨S1024x1, .f32⟩
  | .hbm, ⟨35, _⟩ => ⟨S1x1024, .f32⟩
  | .hbm, ⟨36, _⟩ => ⟨S1024x1, .f32⟩
  | .hbm, ⟨37, _⟩ => ⟨S1x1024, .f32⟩
  | .hbm, ⟨38, _⟩ => ⟨S1024x4x10, .f32⟩
  | .hbm, ⟨39, _⟩ => ⟨S_, .i32⟩
  | .hbm, ⟨40, _⟩ => ⟨S_, .f32⟩
  | .hbm, ⟨41, _⟩ => ⟨S1024x4x16, .f32⟩
  | .hbm, ⟨42, _⟩ => ⟨S1024x64, .f32⟩
  | .hbm, ⟨43, _⟩ => ⟨S40x10, .f32⟩
  | .hbm, ⟨44, _⟩ => ⟨S4x10x10, .f32⟩
  | .hbm, ⟨45, _⟩ => ⟨S_, .i32⟩
  | .hbm, ⟨46, _⟩ => ⟨S_, .f32⟩
  | .hbm, ⟨47, _⟩ => ⟨S4x16x16, .f32⟩
  | .hbm, ⟨48, _⟩ => ⟨S64x16, .f32⟩
  | .hbm, ⟨49, _⟩ => ⟨S4x10, .f32⟩
  | .hbm, ⟨50, _⟩ => ⟨S_, .i32⟩
  | .hbm, ⟨51, _⟩ => ⟨S_, .f32⟩
  | .hbm, ⟨52, _⟩ => ⟨S4x16, .f32⟩
  | .hbm, ⟨53, _⟩ => ⟨S1x64, .f32⟩
  | .hbm, ⟨54, _⟩ => ⟨S64x10, .f32⟩
  | .local _ .vmem, ⟨0, _⟩ => ⟨S320x1, .i32⟩
  | .local _ .vmem, ⟨1, _⟩ => ⟨S8192x192, .f32⟩
  | .local _ .vmem, ⟨2, _⟩ => ⟨S184x8, .f32⟩
  | .local _ .vmem, ⟨3, _⟩ => ⟨S8x128, .f32⟩
  | .local _ .vmem, ⟨4, _⟩ => ⟨S32x128, .f32⟩
  | .local _ .vmem, ⟨5, _⟩ => ⟨S1x128, .f32⟩
  | .local _ .vmem, ⟨6, _⟩ => ⟨S8x128, .f32⟩
  | .local _ .vmem, ⟨7, _⟩ => ⟨S32x128, .f32⟩
  | .local _ .vmem, ⟨8, _⟩ => ⟨S1x128, .f32⟩
  | .local _ .vmem, ⟨9, _⟩ => ⟨S192x128, .f32⟩
  | .local _ .vmem, ⟨10, _⟩ => ⟨S192x128, .f32⟩
  | .local _ .vmem, ⟨11, _⟩ => ⟨S64x128, .f32⟩
  | .local _ .vmem, ⟨12, _⟩ => ⟨S64x128, .f32⟩
  | .local _ .vmem, ⟨13, _⟩ => ⟨S1x128, .f32⟩
  | .local _ .vmem, ⟨14, _⟩ => ⟨S128x1024, .f32⟩
  | .local _ .vmem, ⟨15, _⟩ => ⟨S1x1024, .f32⟩
  | .local _ .vmem, ⟨16, _⟩ => ⟨S1024x1, .f32⟩
  | .local _ .vmem, ⟨17, _⟩ => ⟨S1x1024, .f32⟩
  | .local _ .vmem, ⟨18, _⟩ => ⟨S1024x1, .f32⟩
  | .local _ .vmem, ⟨19, _⟩ => ⟨S1x1024, .f32⟩
  | .local _ .vmem, ⟨20, _⟩ => ⟨S1024x64, .f32⟩
  | .local _ .vmem, ⟨21, _⟩ => ⟨S64x16, .f32⟩
  | .local _ .vmem, ⟨22, _⟩ => ⟨S1x64, .f32⟩
  | .local _ .vmem, ⟨23, _⟩ => ⟨S64x10, .f32⟩
  | .local _ .vmem, ⟨24, _⟩ => ⟨S8192x64, .f32⟩
  | _, _ => ⟨S64x128x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c : Ref sig .tc := ⟨.hbm, 39, rfl⟩
abbrev main_call0_v0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_0 : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_1 : Ref sig .tc := ⟨.hbm, 50, rfl⟩
abbrev main_call2_v0 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_scratch0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23

abbrev nD : Nat := 1
abbrev τ : Topo := Topo.v7x

variable {F : FTy → Type} [FloatOps F]

abbrev grid0 : Pipeline.Grid := .none

@[reducible] def k0_t1_loop : Scf.Loop 32 :=
  let c0_i32_100 : BitVec 32 := 0#32
  let c128_i32_101 : BitVec 32 := 128#32
  let v363 : BitVec 32 := Scalar.addi c0_i32_100 c128_i32_101
  let c1_i32_102 : BitVec 32 := 1#32
  ⟨c0_i32_100, v363, c1_i32_102⟩
def k0_off1 (k0_t1 : Fin k0_t1_loop.trips) : Fin 2 → Nat :=
  let c0_i32_100 : BitVec 32 := 0#32
  let c1_i32_102 : BitVec 32 := 1#32
  let arg25 : BitVec 32 := Scf.iv c0_i32_100 c1_i32_102 k0_t1
  let c64_i32 : BitVec 32 := 64#32
  let v368 : BitVec 32 := Scalar.muli arg25 c64_i32
  let v369 : Index := Scalar.indexCast v368
  let c0_106 : Index := 0#32
  ![v369.toNat, 0]
abbrev stage0_0 : Fin 1 → Memref sig .tc .vmem S320x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S184x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S192x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1024x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1024x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S64x16 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S64x10 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
-- ==== ReferenceIdeal.lean ====
abbrev S64x128x192 : Shape := ⟨3, ![64, 128, 192]⟩
abbrev S64x5 : Shape := ⟨2, ![64, 5]⟩
abbrev S_ : Shape := ⟨0, ![]⟩
abbrev S184x8 : Shape := ⟨2, ![184, 8]⟩
abbrev S8x128 : Shape := ⟨2, ![8, 128]⟩
abbrev S32x128 : Shape := ⟨2, ![32, 128]⟩
abbrev S128 : Shape := ⟨1, ![128]⟩
abbrev S2x256x128 : Shape := ⟨3, ![2, 256, 128]⟩
abbrev S128x1024 : Shape := ⟨2, ![128, 1024]⟩
abbrev S1024 : Shape := ⟨1, ![1024]⟩
abbrev S1024x40 : Shape := ⟨2, ![1024, 40]⟩
abbrev S10x40 : Shape := ⟨2, ![10, 40]⟩
abbrev S40 : Shape := ⟨1, ![40]⟩
abbrev S64x5x1 : Shape := ⟨3, ![64, 5, 1]⟩
abbrev S1 : Shape := ⟨1, ![1]⟩
abbrev S1x1x1 : Shape := ⟨3, ![1, 1, 1]⟩
abbrev S64x5x8 : Shape := ⟨3, ![64, 5, 8]⟩
abbrev S64x32 : Shape := ⟨2, ![64, 32]⟩
abbrev S64x1x8 : Shape := ⟨3, ![64, 1, 8]⟩
abbrev S64x8 : Shape := ⟨2, ![64, 8]⟩
abbrev S64x128 : Shape := ⟨2, ![64, 128]⟩
abbrev S1x128 : Shape := ⟨2, ![1, 128]⟩
abbrev S64x64 : Shape := ⟨2, ![64, 64]⟩
abbrev S1x64x1x64 : Shape := ⟨4, ![1, 64, 1, 64]⟩
abbrev S128x64x1x64 : Shape := ⟨4, ![128, 64, 1, 64]⟩
abbrev S8192x64 : Shape := ⟨2, ![8192, 64]⟩
abbrev S64x128x64 : Shape := ⟨3, ![64, 128, 64]⟩
abbrev S64x128x256 : Shape := ⟨3, ![64, 128, 256]⟩
abbrev S64x129x256 : Shape := ⟨3, ![64, 129, 256]⟩
abbrev S1x256x128 : Shape := ⟨3, ![1, 256, 128]⟩
abbrev S256x128 : Shape := ⟨2, ![256, 128]⟩
abbrev S64x128x128 : Shape := ⟨3, ![64, 128, 128]⟩
abbrev S1x1x128 : Shape := ⟨3, ![1, 1, 128]⟩
abbrev S64x128x1024 : Shape := ⟨3, ![64, 128, 1024]⟩
abbrev S1x1x1024 : Shape := ⟨3, ![1, 1, 1024]⟩
abbrev S64x128x1 : Shape := ⟨3, ![64, 128, 1]⟩
abbrev S64x10 : Shape := ⟨2, ![64, 10]⟩
abbrev S128x64x1024 : Shape := ⟨3, ![128, 64, 1024]⟩
abbrev S1x64x1024 : Shape := ⟨3, ![1, 64, 1024]⟩
abbrev S64x1024 : Shape := ⟨2, ![64, 1024]⟩
abbrev S64x40 : Shape := ⟨2, ![64, 40]⟩
abbrev S1x40 : Shape := ⟨2, ![1, 40]⟩

abbrev nBuf : Space → Nat
  | .hbm => 604
  | .vmem => 0
  | .smem => 0
  | _ => 0

abbrev hbmTy0_0 (i : Nat) : BufTy := match i % 128 with
  | 0 => ⟨S64x128x192, .f32⟩
  | 1 => ⟨S64x5, .i32⟩
  | 2 => ⟨S_, .i1⟩
  | 3 => ⟨S184x8, .f32⟩
  | 4 => ⟨S8x128, .f32⟩
  | 5 => ⟨S32x128, .f32⟩
  | 6 => ⟨S128, .f32⟩
  | 7 => ⟨S8x128, .f32⟩
  | 8 => ⟨S32x128, .f32⟩
  | 9 => ⟨S128, .f32⟩
  | 10 => ⟨S2x256x128, .f32⟩
  | 11 => ⟨S128, .f32⟩
  | 12 => ⟨S128x1024, .f32⟩
  | 13 => ⟨S1024, .f32⟩
  | 14 => ⟨S1024, .f32⟩
  | 15 => ⟨S1024, .f32⟩
  | 16 => ⟨S1024x40, .f32⟩
  | 17 => ⟨S10x40, .f32⟩
  | 18 => ⟨S40, .f32⟩
  | 19 => ⟨S_, .i32⟩
  | 20 => ⟨S64x5, .i32⟩
  | 21 => ⟨S64x5, .i1⟩
  | 22 => ⟨S_, .i32⟩
  | 23 => ⟨S64x5, .i32⟩
  | 24 => ⟨S64x5, .i32⟩
  | 25 => ⟨S64x5, .i32⟩
  | 26 => ⟨S64x5x1, .i32⟩
  | 27 => ⟨S1, .i32⟩
  | 28 => ⟨S_, .i32⟩
  | 29 => ⟨S64x5x1, .i32⟩
  | 30 => ⟨S64x5x1, .i1⟩
  | 31 => ⟨S1x1x1, .i32⟩
  | 32 => ⟨S64x5x1, .i32⟩
  | 33 => ⟨S64x5x1, .i1⟩
  | 34 => ⟨S64x5x1, .i1⟩
  | 35 => ⟨S_, .i1⟩
  | 36 => ⟨S64x5, .i1⟩
  | 37 => ⟨S64x5x8, .f32⟩
  | 38 => ⟨S64x5x8, .i1⟩
  | 39 => ⟨S_, .f32⟩
  | 40 => ⟨S64x5x8, .f32⟩
  | 41 => ⟨S64x5x8, .f32⟩
  | 42 => ⟨S_, .f32⟩
  | 43 => ⟨S64x32, .f32⟩
  | 44 => ⟨S_, .f32⟩
  | 45 => ⟨S64x32, .f32⟩
  | 46 => ⟨S64x1x8, .f32⟩
  | 47 => ⟨S64x8, .f32⟩
  | 48 => ⟨S64x128, .f32⟩
  | 49 => ⟨S64x128, .f32⟩
  | 50 => ⟨S64x128, .f32⟩
  | 51 => ⟨S1x128, .f32⟩
  | 52 => ⟨S64x128, .f32⟩
  | 53 => ⟨S64x128, .f32⟩
  | 54 => ⟨S64x32, .f32⟩
  | 55 => ⟨S64x32, .f32⟩
  | 56 => ⟨S64x32, .f32⟩
  | 57 => ⟨S64x32, .f32⟩
  | 58 => ⟨S64x32, .f32⟩
  | 59 => ⟨S64x32, .f32⟩
  | 60 => ⟨S_, .f32⟩
  | 61 => ⟨S64x32, .f32⟩
  | 62 => ⟨S64x32, .f32⟩
  | 63 => ⟨S_, .f32⟩
  | 64 => ⟨S64x32, .f32⟩
  | 65 => ⟨S64x32, .f32⟩
  | 66 => ⟨S64x32, .f32⟩
  | 67 => ⟨S64x32, .f32⟩
  | 68 => ⟨S64x32, .f32⟩
  | 69 => ⟨S_, .f32⟩
  | 70 => ⟨S64x32, .f32⟩
  | 71 => ⟨S64x32, .f32⟩
  | 72 => ⟨S_, .f32⟩
  | 73 => ⟨S64x32, .f32⟩
  | 74 => ⟨S64x32, .f32⟩
  | 75 => ⟨S64x32, .f32⟩
  | 76 => ⟨S64x32, .f32⟩
  | 77 => ⟨S64x32, .f32⟩
  | 78 => ⟨S64x32, .f32⟩
  | 79 => ⟨S64x32, .f32⟩
  | 80 => ⟨S_, .f32⟩
  | 81 => ⟨S64x32, .f32⟩
  | 82 => ⟨S64x32, .f32⟩
  | 83 => ⟨S_, .f32⟩
  | 84 => ⟨S64x32, .f32⟩
  | 85 => ⟨S64x32, .f32⟩
  | 86 => ⟨S64x32, .f32⟩
  | 87 => ⟨S64x32, .f32⟩
  | 88 => ⟨S64x1x8, .f32⟩
  | 89 => ⟨S64x8, .f32⟩
  | 90 => ⟨S64x128, .f32⟩
  | 91 => ⟨S64x128, .f32⟩
  | 92 => ⟨S64x128, .f32⟩
  | 93 => ⟨S1x128, .f32⟩
  | 94 => ⟨S64x128, .f32⟩
  | 95 => ⟨S64x128, .f32⟩
  | 96 => ⟨S64x32, .f32⟩
  | 97 => ⟨S64x32, .f32⟩
  | 98 => ⟨S64x32, .f32⟩
  | 99 => ⟨S64x32, .f32⟩
  | 100 => ⟨S64x32, .f32⟩
  | 101 => ⟨S64x32, .f32⟩
  | 102 => ⟨S_, .f32⟩
  | 103 => ⟨S64x32, .f32⟩
  | 104 => ⟨S64x32, .f32⟩
  | 105 => ⟨S_, .f32⟩
  | 106 => ⟨S64x32, .f32⟩
  | 107 => ⟨S64x32, .f32⟩
  | 108 => ⟨S64x32, .f32⟩
  | 109 => ⟨S64x32, .f32⟩
  | 110 => ⟨S64x32, .f32⟩
  | 111 => ⟨S_, .f32⟩
  | 112 => ⟨S64x32, .f32⟩
  | 113 => ⟨S64x32, .f32⟩
  | 114 => ⟨S_, .f32⟩
  | 115 => ⟨S64x32, .f32⟩
  | 116 => ⟨S64x32, .f32⟩
  | 117 => ⟨S64x32, .f32⟩
  | 118 => ⟨S64x32, .f32⟩
  | 119 => ⟨S64x32, .f32⟩
  | 120 => ⟨S64x32, .f32⟩
  | 121 => ⟨S64x32, .f32⟩
  | 122 => ⟨S_, .f32⟩
  | 123 => ⟨S64x32, .f32⟩
  | 124 => ⟨S64x32, .f32⟩
  | 125 => ⟨S_, .f32⟩
  | 126 => ⟨S64x32, .f32⟩
  | 127 => ⟨S64x32, .f32⟩
  | _ => ⟨S64x128x192, .f32⟩

abbrev hbmTy0_1 (i : Nat) : BufTy := match i % 128 with
  | 0 => ⟨S64x32, .f32⟩
  | 1 => ⟨S64x32, .f32⟩
  | 2 => ⟨S64x1x8, .f32⟩
  | 3 => ⟨S64x8, .f32⟩
  | 4 => ⟨S64x128, .f32⟩
  | 5 => ⟨S64x128, .f32⟩
  | 6 => ⟨S64x128, .f32⟩
  | 7 => ⟨S1x128, .f32⟩
  | 8 => ⟨S64x128, .f32⟩
  | 9 => ⟨S64x128, .f32⟩
  | 10 => ⟨S64x32, .f32⟩
  | 11 => ⟨S64x32, .f32⟩
  | 12 => ⟨S64x32, .f32⟩
  | 13 => ⟨S64x32, .f32⟩
  | 14 => ⟨S64x32, .f32⟩
  | 15 => ⟨S64x32, .f32⟩
  | 16 => ⟨S_, .f32⟩
  | 17 => ⟨S64x32, .f32⟩
  | 18 => ⟨S64x32, .f32⟩
  | 19 => ⟨S_, .f32⟩
  | 20 => ⟨S64x32, .f32⟩
  | 21 => ⟨S64x32, .f32⟩
  | 22 => ⟨S64x32, .f32⟩
  | 23 => ⟨S64x32, .f32⟩
  | 24 => ⟨S64x32, .f32⟩
  | 25 => ⟨S_, .f32⟩
  | 26 => ⟨S64x32, .f32⟩
  | 27 => ⟨S64x32, .f32⟩
  | 28 => ⟨S_, .f32⟩
  | 29 => ⟨S64x32, .f32⟩
  | 30 => ⟨S64x32, .f32⟩
  | 31 => ⟨S64x32, .f32⟩
  | 32 => ⟨S64x32, .f32⟩
  | 33 => ⟨S64x32, .f32⟩
  | 34 => ⟨S64x32, .f32⟩
  | 35 => ⟨S64x32, .f32⟩
  | 36 => ⟨S_, .f32⟩
  | 37 => ⟨S64x32, .f32⟩
  | 38 => ⟨S64x32, .f32⟩
  | 39 => ⟨S_, .f32⟩
  | 40 => ⟨S64x32, .f32⟩
  | 41 => ⟨S64x32, .f32⟩
  | 42 => ⟨S64x32, .f32⟩
  | 43 => ⟨S64x32, .f32⟩
  | 44 => ⟨S64x1x8, .f32⟩
  | 45 => ⟨S64x8, .f32⟩
  | 46 => ⟨S64x128, .f32⟩
  | 47 => ⟨S64x128, .f32⟩
  | 48 => ⟨S64x128, .f32⟩
  | 49 => ⟨S1x128, .f32⟩
  | 50 => ⟨S64x128, .f32⟩
  | 51 => ⟨S64x128, .f32⟩
  | 52 => ⟨S64x32, .f32⟩
  | 53 => ⟨S64x32, .f32⟩
  | 54 => ⟨S64x32, .f32⟩
  | 55 => ⟨S64x32, .f32⟩
  | 56 => ⟨S64x32, .f32⟩
  | 57 => ⟨S64x32, .f32⟩
  | 58 => ⟨S_, .f32⟩
  | 59 => ⟨S64x32, .f32⟩
  | 60 => ⟨S64x32, .f32⟩
  | 61 => ⟨S_, .f32⟩
  | 62 => ⟨S64x32, .f32⟩
  | 63 => ⟨S64x32, .f32⟩
  | 64 => ⟨S64x32, .f32⟩
  | 65 => ⟨S64x32, .f32⟩
  | 66 => ⟨S64x32, .f32⟩
  | 67 => ⟨S_, .f32⟩
  | 68 => ⟨S64x32, .f32⟩
  | 69 => ⟨S64x32, .f32⟩
  | 70 => ⟨S_, .f32⟩
  | 71 => ⟨S64x32, .f32⟩
  | 72 => ⟨S64x32, .f32⟩
  | 73 => ⟨S64x32, .f32⟩
  | 74 => ⟨S64x32, .f32⟩
  | 75 => ⟨S64x32, .f32⟩
  | 76 => ⟨S64x32, .f32⟩
  | 77 => ⟨S64x32, .f32⟩
  | 78 => ⟨S_, .f32⟩
  | 79 => ⟨S64x32, .f32⟩
  | 80 => ⟨S64x32, .f32⟩
  | 81 => ⟨S_, .f32⟩
  | 82 => ⟨S64x32, .f32⟩
  | 83 => ⟨S64x32, .f32⟩
  | 84 => ⟨S64x32, .f32⟩
  | 85 => ⟨S64x32, .f32⟩
  | 86 => ⟨S64x1x8, .f32⟩
  | 87 => ⟨S64x8, .f32⟩
  | 88 => ⟨S64x128, .f32⟩
  | 89 => ⟨S64x128, .f32⟩
  | 90 => ⟨S64x128, .f32⟩
  | 91 => ⟨S1x128, .f32⟩
  | 92 => ⟨S64x128, .f32⟩
  | 93 => ⟨S64x128, .f32⟩
  | 94 => ⟨S64x32, .f32⟩
  | 95 => ⟨S64x32, .f32⟩
  | 96 => ⟨S64x32, .f32⟩
  | 97 => ⟨S64x32, .f32⟩
  | 98 => ⟨S64x32, .f32⟩
  | 99 => ⟨S64x32, .f32⟩
  | 100 => ⟨S_, .f32⟩
  | 101 => ⟨S64x32, .f32⟩
  | 102 => ⟨S64x32, .f32⟩
  | 103 => ⟨S_, .f32⟩
  | 104 => ⟨S64x32, .f32⟩
  | 105 => ⟨S64x32, .f32⟩
  | 106 => ⟨S64x32, .f32⟩
  | 107 => ⟨S64x32, .f32⟩
  | 108 => ⟨S64x32, .f32⟩
  | 109 => ⟨S_, .f32⟩
  | 110 => ⟨S64x32, .f32⟩
  | 111 => ⟨S64x32, .f32⟩
  | 112 => ⟨S_, .f32⟩
  | 113 => ⟨S64x32, .f32⟩
  | 114 => ⟨S64x32, .f32⟩
  | 115 => ⟨S64x32, .f32⟩
  | 116 => ⟨S64x32, .f32⟩
  | 117 => ⟨S64x32, .f32⟩
  | 118 => ⟨S64x32, .f32⟩
  | 119 => ⟨S64x32, .f32⟩
  | 120 => ⟨S_, .f32⟩
  | 121 => ⟨S64x32, .f32⟩
  | 122 => ⟨S64x32, .f32⟩
  | 123 => ⟨S_, .f32⟩
  | 124 => ⟨S64x32, .f32⟩
  | 125 => ⟨S64x32, .f32⟩
  | 126 => ⟨S64x32, .f32⟩
  | 127 => ⟨S64x32, .f32⟩
  | _ => ⟨S64x128x192, .f32⟩

abbrev hbmTy0_2 (i : Nat) : BufTy := match i % 128 with
  | 0 => ⟨S64x5x8, .f32⟩
  | 1 => ⟨S_, .f32⟩
  | 2 => ⟨S64x32, .f32⟩
  | 3 => ⟨S_, .f32⟩
  | 4 => ⟨S64x32, .f32⟩
  | 5 => ⟨S64x1x8, .f32⟩
  | 6 => ⟨S64x8, .f32⟩
  | 7 => ⟨S64x128, .f32⟩
  | 8 => ⟨S64x128, .f32⟩
  | 9 => ⟨S64x128, .f32⟩
  | 10 => ⟨S1x128, .f32⟩
  | 11 => ⟨S64x128, .f32⟩
  | 12 => ⟨S64x128, .f32⟩
  | 13 => ⟨S64x32, .f32⟩
  | 14 => ⟨S64x32, .f32⟩
  | 15 => ⟨S64x32, .f32⟩
  | 16 => ⟨S64x32, .f32⟩
  | 17 => ⟨S64x32, .f32⟩
  | 18 => ⟨S64x32, .f32⟩
  | 19 => ⟨S_, .f32⟩
  | 20 => ⟨S64x32, .f32⟩
  | 21 => ⟨S64x32, .f32⟩
  | 22 => ⟨S_, .f32⟩
  | 23 => ⟨S64x32, .f32⟩
  | 24 => ⟨S64x32, .f32⟩
  | 25 => ⟨S64x32, .f32⟩
  | 26 => ⟨S64x32, .f32⟩
  | 27 => ⟨S64x32, .f32⟩
  | 28 => ⟨S_, .f32⟩
  | 29 => ⟨S64x32, .f32⟩
  | 30 => ⟨S64x32, .f32⟩
  | 31 => ⟨S_, .f32⟩
  | 32 => ⟨S64x32, .f32⟩
  | 33 => ⟨S64x32, .f32⟩
  | 34 => ⟨S64x32, .f32⟩
  | 35 => ⟨S64x32, .f32⟩
  | 36 => ⟨S64x32, .f32⟩
  | 37 => ⟨S64x32, .f32⟩
  | 38 => ⟨S64x32, .f32⟩
  | 39 => ⟨S_, .f32⟩
  | 40 => ⟨S64x32, .f32⟩
  | 41 => ⟨S64x32, .f32⟩
  | 42 => ⟨S_, .f32⟩
  | 43 => ⟨S64x32, .f32⟩
  | 44 => ⟨S64x32, .f32⟩
  | 45 => ⟨S64x32, .f32⟩
  | 46 => ⟨S64x32, .f32⟩
  | 47 => ⟨S64x1x8, .f32⟩
  | 48 => ⟨S64x8, .f32⟩
  | 49 => ⟨S64x128, .f32⟩
  | 50 => ⟨S64x128, .f32⟩
  | 51 => ⟨S64x128, .f32⟩
  | 52 => ⟨S1x128, .f32⟩
  | 53 => ⟨S64x128, .f32⟩
  | 54 => ⟨S64x128, .f32⟩
  | 55 => ⟨S64x32, .f32⟩
  | 56 => ⟨S64x32, .f32⟩
  | 57 => ⟨S64x32, .f32⟩
  | 58 => ⟨S64x32, .f32⟩
  | 59 => ⟨S64x32, .f32⟩
  | 60 => ⟨S64x32, .f32⟩
  | 61 => ⟨S_, .f32⟩
  | 62 => ⟨S64x32, .f32⟩
  | 63 => ⟨S64x32, .f32⟩
  | 64 => ⟨S_, .f32⟩
  | 65 => ⟨S64x32, .f32⟩
  | 66 => ⟨S64x32, .f32⟩
  | 67 => ⟨S64x32, .f32⟩
  | 68 => ⟨S64x32, .f32⟩
  | 69 => ⟨S64x32, .f32⟩
  | 70 => ⟨S_, .f32⟩
  | 71 => ⟨S64x32, .f32⟩
  | 72 => ⟨S64x32, .f32⟩
  | 73 => ⟨S_, .f32⟩
  | 74 => ⟨S64x32, .f32⟩
  | 75 => ⟨S64x32, .f32⟩
  | 76 => ⟨S64x32, .f32⟩
  | 77 => ⟨S64x32, .f32⟩
  | 78 => ⟨S64x32, .f32⟩
  | 79 => ⟨S64x32, .f32⟩
  | 80 => ⟨S64x32, .f32⟩
  | 81 => ⟨S_, .f32⟩
  | 82 => ⟨S64x32, .f32⟩
  | 83 => ⟨S64x32, .f32⟩
  | 84 => ⟨S_, .f32⟩
  | 85 => ⟨S64x32, .f32⟩
  | 86 => ⟨S64x32, .f32⟩
  | 87 => ⟨S64x32, .f32⟩
  | 88 => ⟨S64x32, .f32⟩
  | 89 => ⟨S64x1x8, .f32⟩
  | 90 => ⟨S64x8, .f32⟩
  | 91 => ⟨S64x128, .f32⟩
  | 92 => ⟨S64x128, .f32⟩
  | 93 => ⟨S64x128, .f32⟩
  | 94 => ⟨S1x128, .f32⟩
  | 95 => ⟨S64x128, .f32⟩
  | 96 => ⟨S64x128, .f32⟩
  | 97 => ⟨S64x32, .f32⟩
  | 98 => ⟨S64x32, .f32⟩
  | 99 => ⟨S64x32, .f32⟩
  | 100 => ⟨S64x32, .f32⟩
  | 101 => ⟨S64x32, .f32⟩
  | 102 => ⟨S64x32, .f32⟩
  | 103 => ⟨S_, .f32⟩
  | 104 => ⟨S64x32, .f32⟩
  | 105 => ⟨S64x32, .f32⟩
  | 106 => ⟨S_, .f32⟩
  | 107 => ⟨S64x32, .f32⟩
  | 108 => ⟨S64x32, .f32⟩
  | 109 => ⟨S64x32, .f32⟩
  | 110 => ⟨S64x32, .f32⟩
  | 111 => ⟨S64x32, .f32⟩
  | 112 => ⟨S_, .f32⟩
  | 113 => ⟨S64x32, .f32⟩
  | 114 => ⟨S64x32, .f32⟩
  | 115 => ⟨S_, .f32⟩
  | 116 => ⟨S64x32, .f32⟩
  | 117 => ⟨S64x32, .f32⟩
  | 118 => ⟨S64x32, .f32⟩
  | 119 => ⟨S64x32, .f32⟩
  | 120 => ⟨S64x32, .f32⟩
  | 121 => ⟨S64x32, .f32⟩
  | 122 => ⟨S64x32, .f32⟩
  | 123 => ⟨S_, .f32⟩
  | 124 => ⟨S64x32, .f32⟩
  | 125 => ⟨S64x32, .f32⟩
  | 126 => ⟨S_, .f32⟩
  | 127 => ⟨S64x32, .f32⟩
  | _ => ⟨S64x128x192, .f32⟩

abbrev hbmTy0_3 (i : Nat) : BufTy := match i % 128 with
  | 0 => ⟨S64x32, .f32⟩
  | 1 => ⟨S64x32, .f32⟩
  | 2 => ⟨S64x32, .f32⟩
  | 3 => ⟨S64x1x8, .f32⟩
  | 4 => ⟨S64x8, .f32⟩
  | 5 => ⟨S64x128, .f32⟩
  | 6 => ⟨S64x128, .f32⟩
  | 7 => ⟨S64x128, .f32⟩
  | 8 => ⟨S1x128, .f32⟩
  | 9 => ⟨S64x128, .f32⟩
  | 10 => ⟨S64x128, .f32⟩
  | 11 => ⟨S64x32, .f32⟩
  | 12 => ⟨S64x32, .f32⟩
  | 13 => ⟨S64x32, .f32⟩
  | 14 => ⟨S64x32, .f32⟩
  | 15 => ⟨S64x32, .f32⟩
  | 16 => ⟨S64x32, .f32⟩
  | 17 => ⟨S_, .f32⟩
  | 18 => ⟨S64x32, .f32⟩
  | 19 => ⟨S64x32, .f32⟩
  | 20 => ⟨S_, .f32⟩
  | 21 => ⟨S64x32, .f32⟩
  | 22 => ⟨S64x32, .f32⟩
  | 23 => ⟨S64x32, .f32⟩
  | 24 => ⟨S64x32, .f32⟩
  | 25 => ⟨S64x32, .f32⟩
  | 26 => ⟨S_, .f32⟩
  | 27 => ⟨S64x32, .f32⟩
  | 28 => ⟨S64x32, .f32⟩
  | 29 => ⟨S_, .f32⟩
  | 30 => ⟨S64x32, .f32⟩
  | 31 => ⟨S64x32, .f32⟩
  | 32 => ⟨S64x32, .f32⟩
  | 33 => ⟨S64x32, .f32⟩
  | 34 => ⟨S64x32, .f32⟩
  | 35 => ⟨S64x32, .f32⟩
  | 36 => ⟨S64x32, .f32⟩
  | 37 => ⟨S_, .f32⟩
  | 38 => ⟨S64x32, .f32⟩
  | 39 => ⟨S64x32, .f32⟩
  | 40 => ⟨S_, .f32⟩
  | 41 => ⟨S64x32, .f32⟩
  | 42 => ⟨S64x32, .f32⟩
  | 43 => ⟨S64x32, .f32⟩
  | 44 => ⟨S64x32, .f32⟩
  | 45 => ⟨S64x1x8, .f32⟩
  | 46 => ⟨S64x8, .f32⟩
  | 47 => ⟨S64x128, .f32⟩
  | 48 => ⟨S64x128, .f32⟩
  | 49 => ⟨S64x128, .f32⟩
  | 50 => ⟨S1x128, .f32⟩
  | 51 => ⟨S64x128, .f32⟩
  | 52 => ⟨S64x128, .f32⟩
  | 53 => ⟨S64x32, .f32⟩
  | 54 => ⟨S64x32, .f32⟩
  | 55 => ⟨S64x32, .f32⟩
  | 56 => ⟨S64x32, .f32⟩
  | 57 => ⟨S64x32, .f32⟩
  | 58 => ⟨S64x32, .f32⟩
  | 59 => ⟨S_, .f32⟩
  | 60 => ⟨S64x32, .f32⟩
  | 61 => ⟨S64x32, .f32⟩
  | 62 => ⟨S_, .f32⟩
  | 63 => ⟨S64x32, .f32⟩
  | 64 => ⟨S64x32, .f32⟩
  | 65 => ⟨S64x32, .f32⟩
  | 66 => ⟨S64x32, .f32⟩
  | 67 => ⟨S64x32, .f32⟩
  | 68 => ⟨S_, .f32⟩
  | 69 => ⟨S64x32, .f32⟩
  | 70 => ⟨S64x32, .f32⟩
  | 71 => ⟨S_, .f32⟩
  | 72 => ⟨S64x32, .f32⟩
  | 73 => ⟨S64x32, .f32⟩
  | 74 => ⟨S64x32, .f32⟩
  | 75 => ⟨S64x32, .f32⟩
  | 76 => ⟨S64x32, .f32⟩
  | 77 => ⟨S64x32, .f32⟩
  | 78 => ⟨S64x32, .f32⟩
  | 79 => ⟨S_, .f32⟩
  | 80 => ⟨S64x32, .f32⟩
  | 81 => ⟨S64x32, .f32⟩
  | 82 => ⟨S_, .f32⟩
  | 83 => ⟨S64x32, .f32⟩
  | 84 => ⟨S64x32, .f32⟩
  | 85 => ⟨S64x32, .f32⟩
  | 86 => ⟨S64x32, .f32⟩
  | 87 => ⟨S64x64, .f32⟩
  | 88 => ⟨S1x64x1x64, .f32⟩
  | 89 => ⟨S128x64x1x64, .f32⟩
  | 90 => ⟨S8192x64, .f32⟩
  | 91 => ⟨S64x128x64, .f32⟩
  | 92 => ⟨S64x128x256, .f32⟩
  | 93 => ⟨S_, .i32⟩
  | 94 => ⟨S_, .f32⟩
  | 95 => ⟨S64x129x256, .f32⟩
  | 96 => ⟨S64x128x256, .f32⟩
  | 97 => ⟨S1x256x128, .f32⟩
  | 98 => ⟨S256x128, .f32⟩
  | 99 => ⟨S64x128x128, .f32⟩
  | 100 => ⟨S64x128x256, .f32⟩
  | 101 => ⟨S1x256x128, .f32⟩
  | 102 => ⟨S256x128, .f32⟩
  | 103 => ⟨S64x128x128, .f32⟩
  | 104 => ⟨S64x128x128, .f32⟩
  | 105 => ⟨S1x1x128, .f32⟩
  | 106 => ⟨S64x128x128, .f32⟩
  | 107 => ⟨S64x128x128, .f32⟩
  | 108 => ⟨S_, .f32⟩
  | 109 => ⟨S64x128x128, .f32⟩
  | 110 => ⟨S64x128x128, .f32⟩
  | 111 => ⟨S64x128x1024, .f32⟩
  | 112 => ⟨S1x1x1024, .f32⟩
  | 113 => ⟨S64x128x1024, .f32⟩
  | 114 => ⟨S64x128x1024, .f32⟩
  | 115 => ⟨S_, .f32⟩
  | 116 => ⟨S64x128, .f32⟩
  | 117 => ⟨S64x128x1, .f32⟩
  | 118 => ⟨S_, .f32⟩
  | 119 => ⟨S64x128x1, .f32⟩
  | 120 => ⟨S64x128x1, .f32⟩
  | 121 => ⟨S_, .i32⟩
  | 122 => ⟨S_, .f32⟩
  | 123 => ⟨S64x128, .f32⟩
  | 124 => ⟨S64x128x1, .f32⟩
  | 125 => ⟨S_, .f32⟩
  | 126 => ⟨S64x128x1, .f32⟩
  | 127 => ⟨S64x128x1, .f32⟩
  | _ => ⟨S64x128x192, .f32⟩

abbrev hbmTy0_4 (i : Nat) : BufTy := match i % 128 with
  | 0 => ⟨S64x128x1024, .f32⟩
  | 1 => ⟨S64x128x1024, .f32⟩
  | 2 => ⟨S64x128x1024, .f32⟩
  | 3 => ⟨S_, .f32⟩
  | 4 => ⟨S_, .f32⟩
  | 5 => ⟨S_, .f32⟩
  | 6 => ⟨S_, .f32⟩
  | 7 => ⟨S64x128, .f32⟩
  | 8 => ⟨S64x128x1, .f32⟩
  | 9 => ⟨S64x128x1, .f32⟩
  | 10 => ⟨S64x128x1, .f32⟩
  | 11 => ⟨S_, .f32⟩
  | 12 => ⟨S_, .i1⟩
  | 13 => ⟨S_, .f32⟩
  | 14 => ⟨S_, .f32⟩
  | 15 => ⟨S64x128x1, .f32⟩
  | 16 => ⟨S64x128x1, .f32⟩
  | 17 => ⟨S64x128x1024, .f32⟩
  | 18 => ⟨S64x128x1024, .f32⟩
  | 19 => ⟨S_, .f32⟩
  | 20 => ⟨S64x128x1, .f32⟩
  | 21 => ⟨S64x128x1, .f32⟩
  | 22 => ⟨S64x128x1, .f32⟩
  | 23 => ⟨S64x128x1024, .f32⟩
  | 24 => ⟨S64x128x1024, .f32⟩
  | 25 => ⟨S1x1x1024, .f32⟩
  | 26 => ⟨S64x128x1024, .f32⟩
  | 27 => ⟨S64x128x1024, .f32⟩
  | 28 => ⟨S1x1x1024, .f32⟩
  | 29 => ⟨S64x128x1024, .f32⟩
  | 30 => ⟨S64x128x1024, .f32⟩
  | 31 => ⟨S_, .f32⟩
  | 32 => ⟨S64x10, .f32⟩
  | 33 => ⟨S_, .f32⟩
  | 34 => ⟨S64x10, .f32⟩
  | 35 => ⟨S128x64x1024, .f32⟩
  | 36 => ⟨S_, .i32⟩
  | 37 => ⟨S128x64x1024, .f32⟩
  | 38 => ⟨S1024x40, .f32⟩
  | 39 => ⟨S10x40, .f32⟩
  | 40 => ⟨S40, .f32⟩
  | 41 => ⟨S_, .i32⟩
  | 42 => ⟨S64x10, .f32⟩
  | 43 => ⟨S64x10, .f32⟩
  | 44 => ⟨S_, .i32⟩
  | 45 => ⟨S_, .i1⟩
  | 46 => ⟨S_, .i32⟩
  | 47 => ⟨S_, .i32⟩
  | 48 => ⟨S1x64x1024, .f32⟩
  | 49 => ⟨S64x1024, .f32⟩
  | 50 => ⟨S64x40, .f32⟩
  | 51 => ⟨S64x40, .f32⟩
  | 52 => ⟨S64x40, .f32⟩
  | 53 => ⟨S1x40, .f32⟩
  | 54 => ⟨S64x40, .f32⟩
  | 55 => ⟨S64x40, .f32⟩
  | 56 => ⟨S64x10, .f32⟩
  | 57 => ⟨S64x10, .f32⟩
  | 58 => ⟨S64x10, .f32⟩
  | 59 => ⟨S64x10, .f32⟩
  | 60 => ⟨S64x10, .f32⟩
  | 61 => ⟨S64x10, .f32⟩
  | 62 => ⟨S_, .f32⟩
  | 63 => ⟨S64x10, .f32⟩
  | 64 => ⟨S64x10, .f32⟩
  | 65 => ⟨S_, .f32⟩
  | 66 => ⟨S64x10, .f32⟩
  | 67 => ⟨S64x10, .f32⟩
  | 68 => ⟨S64x10, .f32⟩
  | 69 => ⟨S64x10, .f32⟩
  | 70 => ⟨S64x10, .f32⟩
  | 71 => ⟨S_, .f32⟩
  | 72 => ⟨S64x10, .f32⟩
  | 73 => ⟨S64x10, .f32⟩
  | 74 => ⟨S_, .f32⟩
  | 75 => ⟨S64x10, .f32⟩
  | 76 => ⟨S64x10, .f32⟩
  | 77 => ⟨S64x10, .f32⟩
  | 78 => ⟨S64x10, .f32⟩
  | 79 => ⟨S64x10, .f32⟩
  | 80 => ⟨S64x10, .f32⟩
  | 81 => ⟨S64x10, .f32⟩
  | 82 => ⟨S_, .f32⟩
  | 83 => ⟨S64x10, .f32⟩
  | 84 => ⟨S64x10, .f32⟩
  | 85 => ⟨S_, .f32⟩
  | 86 => ⟨S64x10, .f32⟩
  | 87 => ⟨S64x10, .f32⟩
  | 88 => ⟨S64x10, .f32⟩
  | 89 => ⟨S64x10, .f32⟩
  | 90 => ⟨S_, .i32⟩
  | 91 => ⟨S_, .i32⟩
  | _ => ⟨S64x128x192, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S64x128x192, .f32⟩

abbrev bufTy : (tb : Table) → Fin (tcTables nBuf tb) → BufTy
  | .hbm, ⟨i, _⟩ => hbmTy i
  | _, _ => ⟨S64x128x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v0 : Ref sig .tc := ⟨.hbm, 41, rfl⟩
abbrev main_cst : Ref sig .tc := ⟨.hbm, 42, rfl⟩
abbrev main_v1 : Ref sig .tc := ⟨.hbm, 43, rfl⟩
abbrev main_cst_0 : Ref sig .tc := ⟨.hbm, 44, rfl⟩
abbrev main_v2 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_cst_1 : Ref sig .tc := ⟨.hbm, 60, rfl⟩
abbrev main_v17 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_cst_5 : Ref sig .tc := ⟨.hbm, 80, rfl⟩
abbrev main_v33 : Ref sig .tc := ⟨.hbm, 81, rfl⟩
abbrev main_v34 : Ref sig .tc := ⟨.hbm, 82, rfl⟩
abbrev main_cst_6 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_7 : Ref sig .tc := ⟨.hbm, 102, rfl⟩
abbrev main_v53 : Ref sig .tc := ⟨.hbm, 103, rfl⟩
abbrev main_v54 : Ref sig .tc := ⟨.hbm, 104, rfl⟩
abbrev main_cst_8 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_cst_9 : Ref sig .tc := ⟨.hbm, 111, rfl⟩
abbrev main_v60 : Ref sig .tc := ⟨.hbm, 112, rfl⟩
abbrev main_v61 : Ref sig .tc := ⟨.hbm, 113, rfl⟩
abbrev main_cst_10 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_11 : Ref sig .tc := ⟨.hbm, 122, rfl⟩
abbrev main_v69 : Ref sig .tc := ⟨.hbm, 123, rfl⟩
abbrev main_v70 : Ref sig .tc := ⟨.hbm, 124, rfl⟩
abbrev main_cst_12 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_cst_13 : Ref sig .tc := ⟨.hbm, 144, rfl⟩
abbrev main_v89 : Ref sig .tc := ⟨.hbm, 145, rfl⟩
abbrev main_v90 : Ref sig .tc := ⟨.hbm, 146, rfl⟩
abbrev main_cst_14 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_cst_15 : Ref sig .tc := ⟨.hbm, 153, rfl⟩
abbrev main_v96 : Ref sig .tc := ⟨.hbm, 154, rfl⟩
abbrev main_v97 : Ref sig .tc := ⟨.hbm, 155, rfl⟩
abbrev main_cst_16 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_cst_17 : Ref sig .tc := ⟨.hbm, 164, rfl⟩
abbrev main_v105 : Ref sig .tc := ⟨.hbm, 165, rfl⟩
abbrev main_v106 : Ref sig .tc := ⟨.hbm, 166, rfl⟩
abbrev main_cst_18 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_19 : Ref sig .tc := ⟨.hbm, 186, rfl⟩
abbrev main_v125 : Ref sig .tc := ⟨.hbm, 187, rfl⟩
abbrev main_v126 : Ref sig .tc := ⟨.hbm, 188, rfl⟩
abbrev main_cst_20 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_cst_21 : Ref sig .tc := ⟨.hbm, 195, rfl⟩
abbrev main_v132 : Ref sig .tc := ⟨.hbm, 196, rfl⟩
abbrev main_v133 : Ref sig .tc := ⟨.hbm, 197, rfl⟩
abbrev main_cst_22 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_cst_23 : Ref sig .tc := ⟨.hbm, 206, rfl⟩
abbrev main_v141 : Ref sig .tc := ⟨.hbm, 207, rfl⟩
abbrev main_v142 : Ref sig .tc := ⟨.hbm, 208, rfl⟩
abbrev main_cst_24 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_25 : Ref sig .tc := ⟨.hbm, 228, rfl⟩
abbrev main_v161 : Ref sig .tc := ⟨.hbm, 229, rfl⟩
abbrev main_v162 : Ref sig .tc := ⟨.hbm, 230, rfl⟩
abbrev main_cst_26 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_cst_27 : Ref sig .tc := ⟨.hbm, 237, rfl⟩
abbrev main_v168 : Ref sig .tc := ⟨.hbm, 238, rfl⟩
abbrev main_v169 : Ref sig .tc := ⟨.hbm, 239, rfl⟩
abbrev main_cst_28 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_cst_29 : Ref sig .tc := ⟨.hbm, 248, rfl⟩
abbrev main_v177 : Ref sig .tc := ⟨.hbm, 249, rfl⟩
abbrev main_v178 : Ref sig .tc := ⟨.hbm, 250, rfl⟩
abbrev main_cst_30 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_cst_31 : Ref sig .tc := ⟨.hbm, 257, rfl⟩
abbrev main_v184 : Ref sig .tc := ⟨.hbm, 258, rfl⟩
abbrev main_cst_32 : Ref sig .tc := ⟨.hbm, 259, rfl⟩
abbrev main_v185 : Ref sig .tc := ⟨.hbm, 260, rfl⟩
abbrev main_v186 : Ref sig .tc := ⟨.hbm, 261, rfl⟩
abbrev main_v187 : Ref sig .tc := ⟨.hbm, 262, rfl⟩
abbrev main_v188 : Ref sig .tc := ⟨.hbm, 263, rfl⟩
abbrev main_v189 : Ref sig .tc := ⟨.hbm, 264, rfl⟩
abbrev main_v190 : Ref sig .tc := ⟨.hbm, 265, rfl⟩
abbrev main_v191 : Ref sig .tc := ⟨.hbm, 266, rfl⟩
abbrev main_v192 : Ref sig .tc := ⟨.hbm, 267, rfl⟩
abbrev main_v193 : Ref sig .tc := ⟨.hbm, 268, rfl⟩
abbrev main_v194 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_cst_33 : Ref sig .tc := ⟨.hbm, 275, rfl⟩
abbrev main_v200 : Ref sig .tc := ⟨.hbm, 276, rfl⟩
abbrev main_v201 : Ref sig .tc := ⟨.hbm, 277, rfl⟩
abbrev main_cst_34 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_cst_35 : Ref sig .tc := ⟨.hbm, 284, rfl⟩
abbrev main_v207 : Ref sig .tc := ⟨.hbm, 285, rfl⟩
abbrev main_v208 : Ref sig .tc := ⟨.hbm, 286, rfl⟩
abbrev main_cst_36 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_cst_37 : Ref sig .tc := ⟨.hbm, 295, rfl⟩
abbrev main_v216 : Ref sig .tc := ⟨.hbm, 296, rfl⟩
abbrev main_v217 : Ref sig .tc := ⟨.hbm, 297, rfl⟩
abbrev main_cst_38 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_v231 : Ref sig .tc := ⟨.hbm, 312, rfl⟩
abbrev main_v232 : Ref sig .tc := ⟨.hbm, 313, rfl⟩
abbrev main_v233 : Ref sig .tc := ⟨.hbm, 314, rfl⟩
abbrev main_v234 : Ref sig .tc := ⟨.hbm, 315, rfl⟩
abbrev main_v235 : Ref sig .tc := ⟨.hbm, 316, rfl⟩
abbrev main_cst_39 : Ref sig .tc := ⟨.hbm, 317, rfl⟩
abbrev main_v236 : Ref sig .tc := ⟨.hbm, 318, rfl⟩
abbrev main_v237 : Ref sig .tc := ⟨.hbm, 319, rfl⟩
abbrev main_cst_40 : Ref sig .tc := ⟨.hbm, 320, rfl⟩
abbrev main_v238 : Ref sig .tc := ⟨.hbm, 321, rfl⟩
abbrev main_v239 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_cst_41 : Ref sig .tc := ⟨.hbm, 326, rfl⟩
abbrev main_v243 : Ref sig .tc := ⟨.hbm, 327, rfl⟩
abbrev main_v244 : Ref sig .tc := ⟨.hbm, 328, rfl⟩
abbrev main_cst_42 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_cst_43 : Ref sig .tc := ⟨.hbm, 337, rfl⟩
abbrev main_v252 : Ref sig .tc := ⟨.hbm, 338, rfl⟩
abbrev main_v253 : Ref sig .tc := ⟨.hbm, 339, rfl⟩
abbrev main_cst_44 : Ref sig .tc := ⟨.hbm, 340, rfl⟩
abbrev main_v254 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_v267 : Ref sig .tc := ⟨.hbm, 354, rfl⟩
abbrev main_v268 : Ref sig .tc := ⟨.hbm, 355, rfl⟩
abbrev main_v269 : Ref sig .tc := ⟨.hbm, 356, rfl⟩
abbrev main_v270 : Ref sig .tc := ⟨.hbm, 357, rfl⟩
abbrev main_v271 : Ref sig .tc := ⟨.hbm, 358, rfl⟩
abbrev main_cst_45 : Ref sig .tc := ⟨.hbm, 359, rfl⟩
abbrev main_v272 : Ref sig .tc := ⟨.hbm, 360, rfl⟩
abbrev main_v273 : Ref sig .tc := ⟨.hbm, 361, rfl⟩
abbrev main_cst_46 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_v277 : Ref sig .tc := ⟨.hbm, 366, rfl⟩
abbrev main_v278 : Ref sig .tc := ⟨.hbm, 367, rfl⟩
abbrev main_cst_47 : Ref sig .tc := ⟨.hbm, 368, rfl⟩
abbrev main_v279 : Ref sig .tc := ⟨.hbm, 369, rfl⟩
abbrev main_v280 : Ref sig .tc := ⟨.hbm, 370, rfl⟩
abbrev main_cst_48 : Ref sig .tc := ⟨.hbm, 371, rfl⟩
abbrev main_v281 : Ref sig .tc := ⟨.hbm, 372, rfl⟩
abbrev main_v282 : Ref sig .tc := ⟨.hbm, 373, rfl⟩
abbrev main_v283 : Ref sig .tc := ⟨.hbm, 374, rfl⟩
abbrev main_v284 : Ref sig .tc := ⟨.hbm, 375, rfl⟩
abbrev main_v285 : Ref sig .tc := ⟨.hbm, 376, rfl⟩
abbrev main_v286 : Ref sig .tc := ⟨.hbm, 377, rfl⟩
abbrev main_v287 : Ref sig .tc := ⟨.hbm, 378, rfl⟩
abbrev main_cst_49 : Ref sig .tc := ⟨.hbm, 379, rfl⟩
abbrev main_v288 : Ref sig .tc := ⟨.hbm, 380, rfl⟩
abbrev main_v289 : Ref sig .tc := ⟨.hbm, 381, rfl⟩
abbrev main_cst_50 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_v304 : Ref sig .tc := ⟨.hbm, 397, rfl⟩
abbrev main_v305 : Ref sig .tc := ⟨.hbm, 398, rfl⟩
abbrev main_v306 : Ref sig .tc := ⟨.hbm, 399, rfl⟩
abbrev main_v307 : Ref sig .tc := ⟨.hbm, 400, rfl⟩
abbrev main_cst_51 : Ref sig .tc := ⟨.hbm, 401, rfl⟩
abbrev main_v308 : Ref sig .tc := ⟨.hbm, 402, rfl⟩
abbrev main_v309 : Ref sig .tc := ⟨.hbm, 403, rfl⟩
abbrev main_cst_52 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_cst_53 : Ref sig .tc := ⟨.hbm, 410, rfl⟩
abbrev main_v315 : Ref sig .tc := ⟨.hbm, 411, rfl⟩
abbrev main_v316 : Ref sig .tc := ⟨.hbm, 412, rfl⟩
abbrev main_cst_54 : Ref sig .tc := ⟨.hbm, 413, rfl⟩
abbrev main_v317 : Ref sig .tc := ⟨.hbm, 414, rfl⟩
abbrev main_v318 : Ref sig .tc := ⟨.hbm, 415, rfl⟩
abbrev main_v319 : Ref sig .tc := ⟨.hbm, 416, rfl⟩
abbrev main_v320 : Ref sig .tc := ⟨.hbm, 417, rfl⟩
abbrev main_v321 : Ref sig .tc := ⟨.hbm, 418, rfl⟩
abbrev main_v322 : Ref sig .tc := ⟨.hbm, 419, rfl⟩
abbrev main_v323 : Ref sig .tc := ⟨.hbm, 420, rfl⟩
abbrev main_cst_55 : Ref sig .tc := ⟨.hbm, 421, rfl⟩
abbrev main_v324 : Ref sig .tc := ⟨.hbm, 422, rfl⟩
abbrev main_v325 : Ref sig .tc := ⟨.hbm, 423, rfl⟩
abbrev main_cst_56 : Ref sig .tc := ⟨.hbm, 424, rfl⟩
abbrev main_v326 : Ref sig .tc := ⟨.hbm, 425, rfl⟩
abbrev main_v327 : Ref sig .tc := ⟨.hbm, 426, rfl⟩
abbrev main_v328 : Ref sig .tc := ⟨.hbm, 427, rfl⟩
abbrev main_v329 : Ref sig .tc := ⟨.hbm, 428, rfl⟩
abbrev main_v330 : Ref sig .tc := ⟨.hbm, 429, rfl⟩
abbrev main_v331 : Ref sig .tc := ⟨.hbm, 430, rfl⟩
abbrev main_v332 : Ref sig .tc := ⟨.hbm, 431, rfl⟩
abbrev main_v333 : Ref sig .tc := ⟨.hbm, 432, rfl⟩
abbrev main_v334 : Ref sig .tc := ⟨.hbm, 433, rfl⟩
abbrev main_v335 : Ref sig .tc := ⟨.hbm, 434, rfl⟩
abbrev main_v336 : Ref sig .tc := ⟨.hbm, 435, rfl⟩
abbrev main_v337 : Ref sig .tc := ⟨.hbm, 436, rfl⟩
abbrev main_v338 : Ref sig .tc := ⟨.hbm, 437, rfl⟩
abbrev main_v339 : Ref sig .tc := ⟨.hbm, 438, rfl⟩
abbrev main_v340 : Ref sig .tc := ⟨.hbm, 439, rfl⟩
abbrev main_v341 : Ref sig .tc := ⟨.hbm, 440, rfl⟩
abbrev main_v342 : Ref sig .tc := ⟨.hbm, 441, rfl⟩
abbrev main_v343 : Ref sig .tc := ⟨.hbm, 442, rfl⟩
abbrev main_cst_57 : Ref sig .tc := ⟨.hbm, 443, rfl⟩
abbrev main_v344 : Ref sig .tc := ⟨.hbm, 444, rfl⟩
abbrev main_v345 : Ref sig .tc := ⟨.hbm, 445, rfl⟩
abbrev main_cst_58 : Ref sig .tc := ⟨.hbm, 446, rfl⟩
abbrev main_v346 : Ref sig .tc := ⟨.hbm, 447, rfl⟩
abbrev main_v347 : Ref sig .tc := ⟨.hbm, 448, rfl⟩
abbrev main_v348 : Ref sig .tc := ⟨.hbm, 449, rfl⟩
abbrev main_v349 : Ref sig .tc := ⟨.hbm, 450, rfl⟩
abbrev main_v350 : Ref sig .tc := ⟨.hbm, 451, rfl⟩
abbrev main_cst_59 : Ref sig .tc := ⟨.hbm, 452, rfl⟩
abbrev main_v351 : Ref sig .tc := ⟨.hbm, 453, rfl⟩
abbrev main_v352 : Ref sig .tc := ⟨.hbm, 454, rfl⟩
abbrev main_cst_60 : Ref sig .tc := ⟨.hbm, 455, rfl⟩
abbrev main_v353 : Ref sig .tc := ⟨.hbm, 456, rfl⟩
abbrev main_v354 : Ref sig .tc := ⟨.hbm, 457, rfl⟩
abbrev main_v355 : Ref sig .tc := ⟨.hbm, 458, rfl⟩
abbrev main_v356 : Ref sig .tc := ⟨.hbm, 459, rfl⟩
abbrev main_v357 : Ref sig .tc := ⟨.hbm, 460, rfl⟩
abbrev main_v358 : Ref sig .tc := ⟨.hbm, 461, rfl⟩
abbrev main_v359 : Ref sig .tc := ⟨.hbm, 462, rfl⟩
abbrev main_cst_61 : Ref sig .tc := ⟨.hbm, 463, rfl⟩
abbrev main_v360 : Ref sig .tc := ⟨.hbm, 464, rfl⟩
abbrev main_v361 : Ref sig .tc := ⟨.hbm, 465, rfl⟩
abbrev main_cst_62 : Ref sig .tc := ⟨.hbm, 466, rfl⟩
abbrev main_v362 : Ref sig .tc := ⟨.hbm, 467, rfl⟩
abbrev main_v363 : Ref sig .tc := ⟨.hbm, 468, rfl⟩
abbrev main_v364 : Ref sig .tc := ⟨.hbm, 469, rfl⟩
abbrev main_v365 : Ref sig .tc := ⟨.hbm, 470, rfl⟩
abbrev main_v366 : Ref sig .tc := ⟨.hbm, 471, rfl⟩
abbrev main_v367 : Ref sig .tc := ⟨.hbm, 472, rfl⟩
abbrev main_v368 : Ref sig .tc := ⟨.hbm, 473, rfl⟩
abbrev main_v369 : Ref sig .tc := ⟨.hbm, 474, rfl⟩
abbrev main_v370 : Ref sig .tc := ⟨.hbm, 475, rfl⟩
abbrev main_v371 : Ref sig .tc := ⟨.hbm, 476, rfl⟩
abbrev main_c : Ref sig .tc := ⟨.hbm, 477, rfl⟩
abbrev main_call1_v0 : Ref sig .tc := ⟨.hbm, 478, rfl⟩
abbrev main_v372 : Ref sig .tc := ⟨.hbm, 479, rfl⟩
abbrev main_v373 : Ref sig .tc := ⟨.hbm, 480, rfl⟩
abbrev main_v374 : Ref sig .tc := ⟨.hbm, 481, rfl⟩
abbrev main_v375 : Ref sig .tc := ⟨.hbm, 482, rfl⟩
abbrev main_v376 : Ref sig .tc := ⟨.hbm, 483, rfl⟩
abbrev main_v377 : Ref sig .tc := ⟨.hbm, 484, rfl⟩
abbrev main_v378 : Ref sig .tc := ⟨.hbm, 485, rfl⟩
abbrev main_v379 : Ref sig .tc := ⟨.hbm, 486, rfl⟩
abbrev main_v380 : Ref sig .tc := ⟨.hbm, 487, rfl⟩
abbrev main_v381 : Ref sig .tc := ⟨.hbm, 488, rfl⟩
abbrev main_v382 : Ref sig .tc := ⟨.hbm, 489, rfl⟩
abbrev main_v383 : Ref sig .tc := ⟨.hbm, 490, rfl⟩
abbrev main_v384 : Ref sig .tc := ⟨.hbm, 491, rfl⟩
abbrev main_call2_cst : Ref sig .tc := ⟨.hbm, 492, rfl⟩
abbrev main_call2_v0 : Ref sig .tc := ⟨.hbm, 493, rfl⟩
abbrev main_v385 : Ref sig .tc := ⟨.hbm, 494, rfl⟩
abbrev main_v386 : Ref sig .tc := ⟨.hbm, 495, rfl⟩
abbrev main_v387 : Ref sig .tc := ⟨.hbm, 496, rfl⟩
abbrev main_v388 : Ref sig .tc := ⟨.hbm, 497, rfl⟩
abbrev main_v389 : Ref sig .tc := ⟨.hbm, 498, rfl⟩
abbrev main_cst_63 : Ref sig .tc := ⟨.hbm, 499, rfl⟩
abbrev main_v390 : Ref sig .tc := ⟨.hbm, 500, rfl⟩
abbrev main_v391 : Ref sig .tc := ⟨.hbm, 501, rfl⟩
abbrev main_cst_64 : Ref sig .tc := ⟨.hbm, 502, rfl⟩
abbrev main_v392 : Ref sig .tc := ⟨.hbm, 503, rfl⟩
abbrev main_v393 : Ref sig .tc := ⟨.hbm, 504, rfl⟩
abbrev main_c_65 : Ref sig .tc := ⟨.hbm, 505, rfl⟩
abbrev main_call3_cst : Ref sig .tc := ⟨.hbm, 506, rfl⟩
abbrev main_call3_v0 : Ref sig .tc := ⟨.hbm, 507, rfl⟩
abbrev main_call3_v1 : Ref sig .tc := ⟨.hbm, 508, rfl⟩
abbrev main_call3_cst_0 : Ref sig .tc := ⟨.hbm, 509, rfl⟩
abbrev main_call3_v2 : Ref sig .tc := ⟨.hbm, 510, rfl⟩
abbrev main_call3_v3 : Ref sig .tc := ⟨.hbm, 511, rfl⟩
abbrev main_call3_v4 : Ref sig .tc := ⟨.hbm, 512, rfl⟩
abbrev main_call3_v5 : Ref sig .tc := ⟨.hbm, 513, rfl⟩
abbrev main_call3_v6 : Ref sig .tc := ⟨.hbm, 514, rfl⟩
abbrev main_call3_v7 : Ref sig .tc := ⟨.hbm, 515, rfl⟩
abbrev main_call3_cst_1 : Ref sig .tc := ⟨.hbm, 516, rfl⟩
abbrev main_call3_v8 : Ref sig .tc := ⟨.hbm, 517, rfl⟩
abbrev main_call3_cst_2 : Ref sig .tc := ⟨.hbm, 518, rfl⟩
abbrev main_call3_v9 : Ref sig .tc := ⟨.hbm, 519, rfl⟩
abbrev main_call3_v10 : Ref sig .tc := ⟨.hbm, 520, rfl⟩
abbrev main_call3_v11 : Ref sig .tc := ⟨.hbm, 521, rfl⟩
abbrev main_call3_v12 : Ref sig .tc := ⟨.hbm, 522, rfl⟩
abbrev main_call3_cst_3 : Ref sig .tc := ⟨.hbm, 523, rfl⟩
abbrev main_call3_v13 : Ref sig .tc := ⟨.hbm, 524, rfl⟩
abbrev main_call3_cst_4 : Ref sig .tc := ⟨.hbm, 525, rfl⟩
abbrev main_call3_call0_v0 : Ref sig .tc := ⟨.hbm, 526, rfl⟩
abbrev main_call3_call0_v1 : Ref sig .tc := ⟨.hbm, 527, rfl⟩
abbrev main_v394 : Ref sig .tc := ⟨.hbm, 528, rfl⟩
abbrev main_v395 : Ref sig .tc := ⟨.hbm, 529, rfl⟩
abbrev main_v396 : Ref sig .tc := ⟨.hbm, 530, rfl⟩
abbrev main_cst_66 : Ref sig .tc := ⟨.hbm, 531, rfl⟩
abbrev main_v397 : Ref sig .tc := ⟨.hbm, 532, rfl⟩
abbrev main_v398 : Ref sig .tc := ⟨.hbm, 533, rfl⟩
abbrev main_v399 : Ref sig .tc := ⟨.hbm, 534, rfl⟩
abbrev main_v400 : Ref sig .tc := ⟨.hbm, 535, rfl⟩
abbrev main_v401 : Ref sig .tc := ⟨.hbm, 536, rfl⟩
abbrev main_v402 : Ref sig .tc := ⟨.hbm, 537, rfl⟩
abbrev main_v403 : Ref sig .tc := ⟨.hbm, 538, rfl⟩
abbrev main_v404 : Ref sig .tc := ⟨.hbm, 539, rfl⟩
abbrev main_v405 : Ref sig .tc := ⟨.hbm, 540, rfl⟩
abbrev main_v406 : Ref sig .tc := ⟨.hbm, 541, rfl⟩
abbrev main_v407 : Ref sig .tc := ⟨.hbm, 542, rfl⟩
abbrev main_cst_67 : Ref sig .tc := ⟨.hbm, 543, rfl⟩
abbrev main_v408 : Ref sig .tc := ⟨.hbm, 544, rfl⟩
abbrev main_cst_68 : Ref sig .tc := ⟨.hbm, 545, rfl⟩
abbrev main_v409 : Ref sig .tc := ⟨.hbm, 546, rfl⟩
abbrev main_v410 : Ref sig .tc := ⟨.hbm, 547, rfl⟩
abbrev main_c_69 : Ref sig .tc := ⟨.hbm, 548, rfl⟩
abbrev main_v411_0 : Ref sig .tc := ⟨.hbm, 549, rfl⟩
abbrev main_v411_1 : Ref sig .tc := ⟨.hbm, 550, rfl⟩
abbrev main_v411_2 : Ref sig .tc := ⟨.hbm, 551, rfl⟩
abbrev main_v411_3 : Ref sig .tc := ⟨.hbm, 552, rfl⟩
abbrev main_v411_4 : Ref sig .tc := ⟨.hbm, 553, rfl⟩
abbrev main_v411_5 : Ref sig .tc := ⟨.hbm, 554, rfl⟩
abbrev main_v411_6 : Ref sig .tc := ⟨.hbm, 555, rfl⟩
abbrev main_while0c_c_76 : Ref sig .tc := ⟨.hbm, 556, rfl⟩
abbrev main_while0c_v412 : Ref sig .tc := ⟨.hbm, 557, rfl⟩
abbrev main_while0b_call4_c : Ref sig .tc := ⟨.hbm, 558, rfl⟩
abbrev main_while0b_call4_c_0 : Ref sig .tc := ⟨.hbm, 559, rfl⟩
abbrev main_while0b_call4_v0 : Ref sig .tc := ⟨.hbm, 560, rfl⟩
abbrev main_while0b_v412 : Ref sig .tc := ⟨.hbm, 561, rfl⟩
abbrev main_while0b_v413 : Ref sig .tc := ⟨.hbm, 562, rfl⟩
abbrev main_while0b_v414 : Ref sig .tc := ⟨.hbm, 563, rfl⟩
abbrev main_while0b_v415 : Ref sig .tc := ⟨.hbm, 564, rfl⟩
abbrev main_while0b_v416 : Ref sig .tc := ⟨.hbm, 565, rfl⟩
abbrev main_while0b_v417 : Ref sig .tc := ⟨.hbm, 566, rfl⟩
abbrev main_while0b_v418 : Ref sig .tc := ⟨.hbm, 567, rfl⟩
abbrev main_while0b_v419 : Ref sig .tc := ⟨.hbm, 568, rfl⟩
abbrev main_while0b_v420 : Ref sig .tc := ⟨.hbm, 569, rfl⟩
abbrev main_while0b_v421 : Ref sig .tc := ⟨.hbm, 570, rfl⟩
abbrev main_while0b_v422 : Ref sig .tc := ⟨.hbm, 571, rfl⟩
abbrev main_while0b_v423 : Ref sig .tc := ⟨.hbm, 572, rfl⟩
abbrev main_while0b_v424 : Ref sig .tc := ⟨.hbm, 573, rfl⟩
abbrev main_while0b_cst_76 : Ref sig .tc := ⟨.hbm, 574, rfl⟩
abbrev main_while0b_v425 : Ref sig .tc := ⟨.hbm, 575, rfl⟩
abbrev main_while0b_v426 : Ref sig .tc := ⟨.hbm, 576, rfl⟩
abbrev main_while0b_cst_77 : Ref sig .tc := ⟨.hbm, 577, rfl⟩
abbrev main_while0b_v427 : Ref sig .tc := ⟨.hbm, 578, rfl⟩
abbrev main_while0b_v428 : Ref sig .tc := ⟨.hbm, 579, rfl⟩
abbrev main_while0b_v429 : Ref sig .tc := ⟨.hbm, 580, rfl⟩
abbrev main_while0b_v430 : Ref sig .tc := ⟨.hbm, 581, rfl⟩
abbrev main_while0b_v431 : Ref sig .tc := ⟨.hbm, 582, rfl⟩
abbrev main_while0b_cst_78 : Ref sig .tc := ⟨.hbm, 583, rfl⟩
abbrev main_while0b_v432 : Ref sig .tc := ⟨.hbm, 584, rfl⟩
abbrev main_while0b_v433 : Ref sig .tc := ⟨.hbm, 585, rfl⟩
abbrev main_while0b_cst_79 : Ref sig .tc := ⟨.hbm, 586, rfl⟩
abbrev main_while0b_v434 : Ref sig .tc := ⟨.hbm, 587, rfl⟩
abbrev main_while0b_v435 : Ref sig .tc := ⟨.hbm, 588, rfl⟩
abbrev main_while0b_v436 : Ref sig .tc := ⟨.hbm, 589, rfl⟩
abbrev main_while0b_v437 : Ref sig .tc := ⟨.hbm, 590, rfl⟩
abbrev main_while0b_v438 : Ref sig .tc := ⟨.hbm, 591, rfl⟩
abbrev main_while0b_v439 : Ref sig .tc := ⟨.hbm, 592, rfl⟩
abbrev main_while0b_v440 : Ref sig .tc := ⟨.hbm, 593, rfl⟩
abbrev main_while0b_cst_80 : Ref sig .tc := ⟨.hbm, 594, rfl⟩
abbrev main_while0b_v441 : Ref sig .tc := ⟨.hbm, 595, rfl⟩
abbrev main_while0b_v442 : Ref sig .tc := ⟨.hbm, 596, rfl⟩
abbrev main_while0b_cst_81 : Ref sig .tc := ⟨.hbm, 597, rfl⟩
abbrev main_while0b_v443 : Ref sig .tc := ⟨.hbm, 598, rfl⟩
abbrev main_while0b_v444 : Ref sig .tc := ⟨.hbm, 599, rfl⟩
abbrev main_while0b_v445 : Ref sig .tc := ⟨.hbm, 600, rfl⟩
abbrev main_while0b_v446 : Ref sig .tc := ⟨.hbm, 601, rfl⟩
abbrev main_while0b_c_82 : Ref sig .tc := ⟨.hbm, 602, rfl⟩
abbrev main_while0b_v447 : Ref sig .tc := ⟨.hbm, 603, rfl⟩

abbrev nD : Nat := 1
abbrev τ : Topo := Topo.v7x

variable {F : FTy → Type} [FloatOps F]

abbrev main_while0_count : Scf.Loop 32 := ⟨0#32, 128#32, 1#32⟩
-- ==== Proof.RefFrame.lean ====
/-
  The reference leaves its arguments as it found them and ends with every counter at zero: its run says the first,
  and it declares no semaphore, so the second has nothing to say.
-/
module

public import proofs.«01_k».proof.Defs
public import proofs.«01_k».proof.Proof.Gen.ReferenceIdeal.Run
public import proofs.«01_k».proof.Proof.Gen.ReferenceIdeal
public import Idealize.ShloMosaic.Lib.Claim
public import Idealize.ShloMosaic.Lib.Quiescent

@[expose] public section

noncomputable section

namespace Cert.ReferenceIdeal.Hand

open Idealize.ShloMosaic Idealize.SL.Sem Cert.ReferenceIdeal

/-- From any memory with zero counters the reference ends with its nineteen arguments unchanged and its counters zero. -/
theorem frame : Cert.quiescent_ReferenceIdeal := by
  intro m ρ _
  have hrun := Value.run (F := Ideal) m ρ
  exact (θ_run _ _ _).mono (fun r h => And.intro (fun c => (h c).2) (sem_eq_zero_of_no_sems rfl r.2)) hrun

end Cert.ReferenceIdeal.Hand

end
-- ==== Proof.Ideal.Out.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.VecWindow
public import Idealize.ShloMosaic.Lib.Writes

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The 64 rows of the staged gate inputs that trip `t` of the frame loop reads. -/
def rowsAt (gx : Vec F S8192x64 .f32) (t : Fin k0_t1_loop.trips) : Vec F S64x64 .f32 :=
  VecWindow.window gx (k0_off1 t) S64x64.size (k0_off1_inb t)

/-- One trip of the frame loop: the new hidden and cell state from the old ones and the rows of trip `t`. -/
def frameStep (ul : Vec F S64x16 .f32) (gx : Vec F S8192x64 .f32) (t : Fin k0_t1_loop.trips)
    (a : FVec F S16x64 .f32 × FVec F S16x64 .f32) : FVec F S16x64 .f32 × FVec F S16x64 .f32 :=
  (k0_pay51 ul a.1 a.2 (rowsAt gx t), k0_pay50 ul a.1 a.2 (rowsAt gx t))

/-- The hidden and cell state before trip `k` of the frame loop, started at `init`. -/
def frameState (ul : Vec F S64x16 .f32) (gx : Vec F S8192x64 .f32)
    (init : FVec F S16x64 .f32 × FVec F S16x64 .f32) : ℕ → FVec F S16x64 .f32 × FVec F S16x64 .f32
  | 0 => init
  | k + 1 => if h : k < k0_t1_loop.trips then frameStep ul gx ⟨k, h⟩ (frameState ul gx init k)
      else frameState ul gx init k

theorem frameState_succ (ul : Vec F S64x16 .f32) (gx : Vec F S8192x64 .f32)
    (init : FVec F S16x64 .f32 × FVec F S16x64 .f32) (k : Fin k0_t1_loop.trips) :
    frameState ul gx init (k.val + 1) = frameStep ul gx k (frameState ul gx init k.val) := by
  show (if h : k.val < k0_t1_loop.trips then _ else _) = _
  exact dif_pos k.isLt

variable (x0 : Vec F S320x1 .i32) (x1 : Vec F S8192x192 .f32) (x2 : Vec F S184x8 .f32) (x3 : Vec F S8x128 .f32) (x4 : Vec F S32x128 .f32) (x5 : Vec F S1x128 .f32) (x6 : Vec F S8x128 .f32) (x7 : Vec F S32x128 .f32) (x8 : Vec F S1x128 .f32) (x9 : Vec F S192x128 .f32) (x10 : Vec F S192x128 .f32) (x11 : Vec F S64x128 .f32) (x12 : Vec F S64x128 .f32) (x13 : Vec F S1x128 .f32) (x14 : Vec F S128x1024 .f32) (x15 : Vec F S1x1024 .f32) (x16 : Vec F S1024x1 .f32) (x17 : Vec F S1x1024 .f32) (x18 : Vec F S1024x1 .f32) (x19 : Vec F S1x1024 .f32) (x20 : Vec F S1024x64 .f32) (x21 : Vec F S64x16 .f32) (x22 : Vec F S1x64 .f32)

/-- The final state of the first token recurrence. -/
def tokFwd : FVec F S64x32 .f32 :=
  k0_pay14 (k0_pay12 (k0_pay1 x0 x2) x3 x4 (k0_pay2 x5) (k0_pay4 x0 x2 x3 x4 x5) (k0_pay5 x0 x2 x3 x4 x5) (k0_pay6 x0 x2 x3 x4 x5) (k0_pay7 x0 x2 x3 x4 x5))
    (k0_pay13 (k0_pay1 x0 x2) x3 x4 (k0_pay2 x5) (k0_pay4 x0 x2 x3 x4 x5) (k0_pay5 x0 x2 x3 x4 x5) (k0_pay6 x0 x2 x3 x4 x5) (k0_pay7 x0 x2 x3 x4 x5))

/-- What the body knows of the second token recurrence before its last step. -/
def tokBwd25 : FVec F S64x32 .f32 :=
  k0_pay25 (k0_pay1 x0 x2) x6 x7 (k0_pay15 x8) (k0_pay17 (k0_pay1 x0 x2) x6 x7 x8) (k0_pay18 (k0_pay1 x0 x2) x6 x7 x8) (k0_pay19 (k0_pay1 x0 x2) x6 x7 x8) (k0_pay20 (k0_pay1 x0 x2) x6 x7 x8)

@[inherit_doc tokBwd25]
def tokBwd26 : FVec F S64x128 .f32 :=
  k0_pay26 (k0_pay1 x0 x2) x6 x7 (k0_pay15 x8) (k0_pay17 (k0_pay1 x0 x2) x6 x7 x8) (k0_pay18 (k0_pay1 x0 x2) x6 x7 x8) (k0_pay19 (k0_pay1 x0 x2) x6 x7 x8) (k0_pay20 (k0_pay1 x0 x2) x6 x7 x8)

@[inherit_doc tokBwd25]
def tokBwd27 : FVec F S64x32 .f32 :=
  k0_pay27 (k0_pay1 x0 x2) x6 x7 (k0_pay15 x8) (k0_pay17 (k0_pay1 x0 x2) x6 x7 x8) (k0_pay18 (k0_pay1 x0 x2) x6 x7 x8) (k0_pay19 (k0_pay1 x0 x2) x6 x7 x8) (k0_pay20 (k0_pay1 x0 x2) x6 x7 x8)

/-- The convolution's contribution of the token state. -/
def tokConv : FVec F S128x128 .f32 :=
  k0_pay28 (tokFwd x0 x2 x3 x4 x5) (tokBwd25 x0 x2 x6 x7 x8) (tokBwd26 x0 x2 x6 x7 x8) (tokBwd27 x0 x2 x6 x7 x8) x11 x12 x13

/-- The rows after the convolution and the rectifier. -/
def convRows : FVec F S8192x128 .bf16 :=
  k0_pay32 (tokConv x0 x2 x3 x4 x5 x6 x7 x8 x11 x12 x13) (k0_pay30 x1 x9) (k0_pay31 x1 x10)

/-- The gate inputs the body stages, from the convolution's rows `y`. -/
def gateRows (y : FVec F S8192x128 .bf16) : FVec F S8192x64 .f32 :=
  k0_pay47 (k0_pay37 x14 (k0_pay35 x16)) (k0_pay38 (k0_pay34 x15)) (k0_pay39 (k0_pay33 x20) (k0_pay34 x15) x18)
    (k0_pay40 (k0_pay33 x20) x17) (k0_pay41 (k0_pay33 x20) x19 x22) (k0_pay43 y x14 (k0_pay33 x20) x18)
    (k0_pay44 y x14 (k0_pay33 x20) x18) (k0_pay45 y) (k0_pay46 y x14 (k0_pay34 x15))

/-- What the body leaves in the output window. -/
def bodyOut : Vec F S64x10 .f32 :=
  k0_pay52 (frameState x21 (gateRows x14 x15 x16 x17 x18 x19 x20 x22 (convRows x0 x1 x2 x3 x4 x5 x6 x7 x8 x9 x10 x11 x12 x13))
    (k0_pay48 (F := F), k0_pay48 (F := F)) k0_t1_loop.trips).1

end Cert.KernelIdeal.Hand

end

end
-- ==== Proof.Ideal.Loop.lean ====
module

public import proofs.«01_k».proof.Proof.Ideal.Out
public import Idealize.ShloMosaic.Lib.Exec
public import Idealize.ShloMosaic.Lib.Tactic
public import Idealize.ShloMosaic.Lib.VecWindow
public import Idealize.ShloMosaic.Lib.Writes

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (arg0 : Memref sig .tc .vmem S320x1 .i32) (harg0 : arg0.IsWhole) (arg1 : Memref sig .tc .vmem S8192x192 .f32) (harg1 : arg1.IsWhole) (arg2 : Memref sig .tc .vmem S184x8 .f32) (harg2 : arg2.IsWhole) (arg3 : Memref sig .tc .vmem S8x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S8x128 .f32) (harg6 : arg6.IsWhole) (arg7 : Memref sig .tc .vmem S32x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S1x128 .f32) (harg13 : arg13.IsWhole) (arg14 : Memref sig .tc .vmem S128x1024 .f32) (harg14 : arg14.IsWhole) (arg15 : Memref sig .tc .vmem S1x1024 .f32) (harg15 : arg15.IsWhole) (arg16 : Memref sig .tc .vmem S1024x1 .f32) (harg16 : arg16.IsWhole) (arg17 : Memref sig .tc .vmem S1x1024 .f32) (harg17 : arg17.IsWhole) (arg18 : Memref sig .tc .vmem S1024x1 .f32) (harg18 : arg18.IsWhole) (arg19 : Memref sig .tc .vmem S1x1024 .f32) (harg19 : arg19.IsWhole) (arg20 : Memref sig .tc .vmem S1024x64 .f32) (harg20 : arg20.IsWhole) (arg21 : Memref sig .tc .vmem S64x16 .f32) (harg21 : arg21.IsWhole) (arg22 : Memref sig .tc .vmem S1x64 .f32) (harg22 : arg22.IsWhole) (arg23 : Memref sig .tc .vmem S64x10 .f32) (harg23 : arg23.IsWhole) (arg24 : Memref sig .tc .vmem S8192x64 .f32) (harg24 : arg24.IsWhole)
variable (v296 : FVec F S1x128 .f32) (v305 : F .f32) (v306 : FVec F S1x64 .f32) (v307 : FVec F S1x64 .f32) (v309 : FVec F S1x64 .f32) (v313 : FVec F S8192x128 .f32) (v314 : FVec F S8192x64 .f32) (v315 : FVec F S8192x128 .f32) (v323 : FVec F S8192x1 .f32) (v360 : Vec F S64x16 .f32)

/-- One trip of the frame loop: it reads its rows of the staging buffer and yields the stepped state. -/
theorem trip (𝒱 : Variants) (c : Dev nD) (bd : Option 𝒱.V) (E : Set ℕ) (X : BufTy.Contents (Elt F) arg24.view.ty)
    (k : Fin k0_t1_loop.trips) (acc : FVec F S16x64 .f32 × FVec F S16x64 .f32) :
    iprop((arg24.view.loc (c : Thread nD τ) ↦[arg24.view.set]{fullShare} X : sProp 𝕄))
      ⊢ wp frame (wpE (defs₀ (F := F)) 𝒱 (c : Thread nD τ) bd) E
          (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v296 v305 v306 v307 v309 v313 v314 v315 v323 v360 k acc)
          (fun yld => iprop(⌜yld = frameStep v360 (arg24.view.read (Elt F) X) k acc⌝
            ∗ (arg24.view.loc (c : Thread nD τ) ↦[arg24.view.set]{fullShare} X : sProp 𝕄))) := by
  unfold k0_t1_body
  iintro H
  sl_exec
  sl_step
  isplitr
  · ipureintro
    simp only [frameStep, rowsAt]
    rw [View.readAt_unit _ _ _ rfl (k0_off1_inb k)]
  iexact H

/-- The frame loop's invariant: the staging buffer stays, and the carried pair is the state after `k` steps. -/
@[sl_loop, instance_reducible] def frameLoop (𝒱 : Variants) (c : Dev nD) (bd : Option 𝒱.V) (E : Set ℕ) (X : BufTy.Contents (Elt F) arg24.view.ty)
    (init : FVec F S16x64 .f32 × FVec F S16x64 .f32) :
    LoopInv (M := 𝕄) frame (wpE (defs₀ (F := F)) 𝒱 (c : Thread nD τ) bd) E
      k0_t1_loop.lb k0_t1_loop.ub k0_t1_loop.st k0_t1_ok init (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v296 v305 v306 v307 v309 v313 v314 v315 v323 v360) where
  inv k acc := iprop((arg24.view.loc (c : Thread nD τ) ↦[arg24.view.set]{fullShare} X)
    ∗ ⌜acc = frameState v360 (arg24.view.read (Elt F) X) init k⌝)
  step k acc := by
    iintro ⟨H, %hacc⟩
    subst hacc
    iapply (wp_wand_r frame (wpE (defs₀ (F := F)) 𝒱 (c : Thread nD τ) bd) E)
    isplitl [H]
    · iapply (trip arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v296 v305 v306 v307 v309 v313 v314 v315 v323 v360 𝒱 c bd E X k _)
      iexact H
    · iintro %yld ⟨%hy, H⟩
      isplitl [H]; · iexact H
      ipureintro
      rw [hy]; exact (frameState_succ _ _ _ k).symm

end Cert.KernelIdeal.Hand

end

end
-- ==== Proof.Ideal.Body.lean ====
module

public import proofs.«01_k».proof.Proof.Ideal.Loop
public import Idealize.ShloMosaic.Lib.Exec
public import Idealize.ShloMosaic.Lib.Tactic
public import Idealize.ShloMosaic.Lib.VecWindow
public import Idealize.ShloMosaic.Lib.Writes

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (arg0 : Memref sig .tc .vmem S320x1 .i32) (harg0 : arg0.IsWhole) (arg1 : Memref sig .tc .vmem S8192x192 .f32) (harg1 : arg1.IsWhole) (arg2 : Memref sig .tc .vmem S184x8 .f32) (harg2 : arg2.IsWhole) (arg3 : Memref sig .tc .vmem S8x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S8x128 .f32) (harg6 : arg6.IsWhole) (arg7 : Memref sig .tc .vmem S32x128 .f32) (harg7 : arg7.IsWhole) (arg8 : Memref sig .tc .vmem S1x128 .f32) (harg8 : arg8.IsWhole) (arg9 : Memref sig .tc .vmem S192x128 .f32) (harg9 : arg9.IsWhole) (arg10 : Memref sig .tc .vmem S192x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S1x128 .f32) (harg13 : arg13.IsWhole) (arg14 : Memref sig .tc .vmem S128x1024 .f32) (harg14 : arg14.IsWhole) (arg15 : Memref sig .tc .vmem S1x1024 .f32) (harg15 : arg15.IsWhole) (arg16 : Memref sig .tc .vmem S1024x1 .f32) (harg16 : arg16.IsWhole) (arg17 : Memref sig .tc .vmem S1x1024 .f32) (harg17 : arg17.IsWhole) (arg18 : Memref sig .tc .vmem S1024x1 .f32) (harg18 : arg18.IsWhole) (arg19 : Memref sig .tc .vmem S1x1024 .f32) (harg19 : arg19.IsWhole) (arg20 : Memref sig .tc .vmem S1024x64 .f32) (harg20 : arg20.IsWhole) (arg21 : Memref sig .tc .vmem S64x16 .f32) (harg21 : arg21.IsWhole) (arg22 : Memref sig .tc .vmem S1x64 .f32) (harg22 : arg22.IsWhole) (arg23 : Memref sig .tc .vmem S64x10 .f32) (harg23 : arg23.IsWhole) (arg24 : Memref sig .tc .vmem S8192x64 .f32) (harg24 : arg24.IsWhole)
variable (x0 : Vec F S320x1 .i32) (x1 : Vec F S8192x192 .f32) (x2 : Vec F S184x8 .f32) (x3 : Vec F S8x128 .f32) (x4 : Vec F S32x128 .f32) (x5 : Vec F S1x128 .f32) (x6 : Vec F S8x128 .f32) (x7 : Vec F S32x128 .f32) (x8 : Vec F S1x128 .f32) (x9 : Vec F S192x128 .f32) (x10 : Vec F S192x128 .f32) (x11 : Vec F S64x128 .f32) (x12 : Vec F S64x128 .f32) (x13 : Vec F S1x128 .f32) (x14 : Vec F S128x1024 .f32) (x15 : Vec F S1x1024 .f32) (x16 : Vec F S1024x1 .f32) (x17 : Vec F S1x1024 .f32) (x18 : Vec F S1024x1 .f32) (x19 : Vec F S1x1024 .f32) (x20 : Vec F S1024x64 .f32) (x21 : Vec F S64x16 .f32) (x22 : Vec F S1x64 .f32)

set_option maxHeartbeats 2000000 in
/-- The kernel body on whole windows: it leaves the inputs as they were and writes `bodyOut` of them to the output. -/
theorem body_run (c : Dev nD) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ (∃ d, owns (c : Thread nD τ) arg23 fullShare d) ∗ (∃ d, owns (c : Thread nD τ) arg24 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare (bodyOut x0 x1 x2 x3 x4 x5 x6 x7 x8 x9 x10 x11 x12 x13 x14 x15 x16 x17 x18 x19 x20 x21 x22) ∗ (∃ d, owns (c : Thread nD τ) arg24 fullShare d)) -∗ K ⟨⟩))
      ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%ds0, %fs0, -, HS0⟩, Hk⟩
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; · ipureintro; exact hf11
    iexact H11
  isplitl [H12]
  · iexists _; isplitr; · ipureintro; exact hf12
    iexact H12
  isplitl [H13]
  · iexists _; isplitr; · ipureintro; exact hf13
    iexact H13
  isplitl [H14]
  · iexists _; isplitr; · ipureintro; exact hf14
    iexact H14
  isplitl [H15]
  · iexists _; isplitr; · ipureintro; exact hf15
    iexact H15
  isplitl [H16]
  · iexists _; isplitr; · ipureintro; exact hf16
    iexact H16
  isplitl [H17]
  · iexists _; isplitr; · ipureintro; exact hf17
    iexact H17
  isplitl [H18]
  · iexists _; isplitr; · ipureintro; exact hf18
    iexact H18
  isplitl [H19]
  · iexists _; isplitr; · ipureintro; exact hf19
    iexact H19
  isplitl [H20]
  · iexists _; isplitr; · ipureintro; exact hf20
    iexact H20
  isplitl [H21]
  · iexists _; isplitr; · ipureintro; exact hf21
    iexact H21
  isplitl [H22]
  · iexists _; isplitr; · ipureintro; exact hf22
    iexact H22
  isplitl [H23]
  · iexists _; isplitr; swap; · iexact H23
    ipureintro
    have g0 : View.readAt (Elt F) arg0.view (Rect.unit ![0, 0] ![320, 1] inb_S320x1_S320x1_0_0).toLoadRect f0 = x0 :=
      (View.readAt_full arg0.view f0 inb_S320x1_S320x1_0_0).trans hf0
    have g1 : View.readAt (Elt F) arg1.view (Rect.unit ![0, 0] ![8192, 192] inb_S8192x192_S8192x192_0_0).toLoadRect f1 = x1 :=
      (View.readAt_full arg1.view f1 inb_S8192x192_S8192x192_0_0).trans hf1
    have g2 : View.readAt (Elt F) arg2.view (Rect.unit ![0, 0] ![184, 8] inb_S184x8_S184x8_0_0).toLoadRect f2 = x2 :=
      (View.readAt_full arg2.view f2 inb_S184x8_S184x8_0_0).trans hf2
    have g3 : View.readAt (Elt F) arg3.view (Rect.unit ![0, 0] ![8, 128] inb_S8x128_S8x128_0_0).toLoadRect f3 = x3 :=
      (View.readAt_full arg3.view f3 inb_S8x128_S8x128_0_0).trans hf3
    have g4 : View.readAt (Elt F) arg4.view (Rect.unit ![0, 0] ![32, 128] inb_S32x128_S32x128_0_0).toLoadRect f4 = x4 :=
      (View.readAt_full arg4.view f4 inb_S32x128_S32x128_0_0).trans hf4
    have g5 : View.readAt (Elt F) arg5.view (Rect.unit ![0, 0] ![1, 128] inb_S1x128_S1x128_0_0).toLoadRect f5 = x5 :=
      (View.readAt_full arg5.view f5 inb_S1x128_S1x128_0_0).trans hf5
    have g6 : View.readAt (Elt F) arg6.view (Rect.unit ![0, 0] ![8, 128] inb_S8x128_S8x128_0_0).toLoadRect f6 = x6 :=
      (View.readAt_full arg6.view f6 inb_S8x128_S8x128_0_0).trans hf6
    have g7 : View.readAt (Elt F) arg7.view (Rect.unit ![0, 0] ![32, 128] inb_S32x128_S32x128_0_0).toLoadRect f7 = x7 :=
      (View.readAt_full arg7.view f7 inb_S32x128_S32x128_0_0).trans hf7
    have g8 : View.readAt (Elt F) arg8.view (Rect.unit ![0, 0] ![1, 128] inb_S1x128_S1x128_0_0).toLoadRect f8 = x8 :=
      (View.readAt_full arg8.view f8 inb_S1x128_S1x128_0_0).trans hf8
    have g9 : View.readAt (Elt F) arg9.view (Rect.unit ![0, 0] ![192, 128] inb_S192x128_S192x128_0_0).toLoadRect f9 = x9 :=
      (View.readAt_full arg9.view f9 inb_S192x128_S192x128_0_0).trans hf9
    have g10 : View.readAt (Elt F) arg10.view (Rect.unit ![0, 0] ![192, 128] inb_S192x128_S192x128_0_0).toLoadRect f10 = x10 :=
      (View.readAt_full arg10.view f10 inb_S192x128_S192x128_0_0).trans hf10
    have g11 : View.readAt (Elt F) arg11.view (Rect.unit ![0, 0] ![64, 128] inb_S64x128_S64x128_0_0).toLoadRect f11 = x11 :=
      (View.readAt_full arg11.view f11 inb_S64x128_S64x128_0_0).trans hf11
    have g12 : View.readAt (Elt F) arg12.view (Rect.unit ![0, 0] ![64, 128] inb_S64x128_S64x128_0_0).toLoadRect f12 = x12 :=
      (View.readAt_full arg12.view f12 inb_S64x128_S64x128_0_0).trans hf12
    have g13 : View.readAt (Elt F) arg13.view (Rect.unit ![0, 0] ![1, 128] inb_S1x128_S1x128_0_0).toLoadRect f13 = x13 :=
      (View.readAt_full arg13.view f13 inb_S1x128_S1x128_0_0).trans hf13
    have g14 : View.readAt (Elt F) arg14.view (Rect.unit ![0, 0] ![128, 1024] inb_S128x1024_S128x1024_0_0).toLoadRect f14 = x14 :=
      (View.readAt_full arg14.view f14 inb_S128x1024_S128x1024_0_0).trans hf14
    have g15 : View.readAt (Elt F) arg15.view (Rect.unit ![0, 0] ![1, 1024] inb_S1x1024_S1x1024_0_0).toLoadRect f15 = x15 :=
      (View.readAt_full arg15.view f15 inb_S1x1024_S1x1024_0_0).trans hf15
    have g16 : View.readAt (Elt F) arg16.view (Rect.unit ![0, 0] ![1024, 1] inb_S1024x1_S1024x1_0_0).toLoadRect f16 = x16 :=
      (View.readAt_full arg16.view f16 inb_S1024x1_S1024x1_0_0).trans hf16
    have g17 : View.readAt (Elt F) arg17.view (Rect.unit ![0, 0] ![1, 1024] inb_S1x1024_S1x1024_0_0).toLoadRect f17 = x17 :=
      (View.readAt_full arg17.view f17 inb_S1x1024_S1x1024_0_0).trans hf17
    have g18 : View.readAt (Elt F) arg18.view (Rect.unit ![0, 0] ![1024, 1] inb_S1024x1_S1024x1_0_0).toLoadRect f18 = x18 :=
      (View.readAt_full arg18.view f18 inb_S1024x1_S1024x1_0_0).trans hf18
    have g19 : View.readAt (Elt F) arg19.view (Rect.unit ![0, 0] ![1, 1024] inb_S1x1024_S1x1024_0_0).toLoadRect f19 = x19 :=
      (View.readAt_full arg19.view f19 inb_S1x1024_S1x1024_0_0).trans hf19
    have g20 : View.readAt (Elt F) arg20.view (Rect.unit ![0, 0] ![1024, 64] inb_S1024x64_S1024x64_0_0).toLoadRect f20 = x20 :=
      (View.readAt_full arg20.view f20 inb_S1024x64_S1024x64_0_0).trans hf20
    have g21 : View.readAt (Elt F) arg21.view (Rect.unit ![0, 0] ![64, 16] inb_S64x16_S64x16_0_0).toLoadRect f21 = x21 :=
      (View.readAt_full arg21.view f21 inb_S64x16_S64x16_0_0).trans hf21
    have g22 : View.readAt (Elt F) arg22.view (Rect.unit ![0, 0] ![1, 64] inb_S1x64_S1x64_0_0).toLoadRect f22 = x22 :=
      (View.readAt_full arg22.view f22 inb_S1x64_S1x64_0_0).trans hf22
    have gw : ∀ w : (Rect.unit (s := S8192x64) ![0, 0] ![8192, 64] inb_S8192x64_S8192x64_0_0).shape.Idx → Elt F .f32, View.read (Elt F) arg24.view (arg24.view.writes (Elt F) arg24.view.junk
        [⟨Rect.unit ![0, 0] ![8192, 64] inb_S8192x64_S8192x64_0_0, w⟩]) = w :=
      fun w => View.read_writes_full arg24.view _ inb_S8192x64_S8192x64_0_0 w []
    refine (View.read_writes_full arg23.view f23 inb_S64x10_S64x10_0_0 _ []).trans ?_
    clear hf0 hf1 hf2 hf3 hf4 hf5 hf6 hf7 hf8 hf9 hf10 hf11 hf12 hf13 hf14 hf15 hf16 hf17 hf18 hf19 hf20 hf21 hf22
    delta body_run.sl.r_39 body_run.sl.HS0_1
    repeat delta body_run.sl.r_39 body_run.sl.r_38 body_run.sl.r_37 body_run.sl.r_36 body_run.sl.r_35 body_run.sl.r_34 body_run.sl.r_33 body_run.sl.r_32 body_run.sl.r_31 body_run.sl.r_30 body_run.sl.r_29 body_run.sl.r_28 body_run.sl.r_27 body_run.sl.r_26 body_run.sl.r_25 body_run.sl.r_24 body_run.sl.r_23 body_run.sl.r_22 body_run.sl.r_21 body_run.sl.r_20 body_run.sl.r_19 body_run.sl.r_18 body_run.sl.r_17 body_run.sl.r_16 body_run.sl.r_15 body_run.sl.r_14 body_run.sl.r_13 body_run.sl.r_12 body_run.sl.r_11 body_run.sl.r_10 body_run.sl.r_9 body_run.sl.r_8 body_run.sl.r_7 body_run.sl.r_6 body_run.sl.r_5 body_run.sl.r_4 body_run.sl.r_3 body_run.sl.r_2 body_run.sl.r_1 body_run.sl.r
    simp only [gw, g0, g1, g2, g3, g4, g5, g6, g7, g8, g9, g10, g11, g12, g13, g14, g15, g16, g17, g18, g19, g20, g21, g22]
    rfl
  iexists _, _; isplitr; swap; · iexact HS0
  ipureintro; rfl

end Cert.KernelIdeal.Hand

end

end
-- ==== Proof.Ideal.Launch.lean ====
module

public import proofs.«01_k».proof.Proof.Ideal.Body
public import Idealize.ShloMosaic.Lib.Exec
public import Idealize.ShloMosaic.Lib.Tactic
public import Idealize.ShloMosaic.Lib.VecWindow
public import Idealize.ShloMosaic.Lib.Writes
public import Idealize.ShloMosaic.Lib.Pipeline.FrameBody
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S320x1 .i32 := win0_0.stage (cfg0.slots t 0)
abbrev hs0_0 (t : Fin cfg0.N) : (ms0_0 t).IsWhole := hstage0_0 0
abbrev ms0_1 (t : Fin cfg0.N) : Memref sig .tc .vmem S8192x192 .f32 := win0_1.stage (cfg0.slots t 1)
abbrev hs0_1 (t : Fin cfg0.N) : (ms0_1 t).IsWhole := hstage0_1 0
abbrev ms0_2 (t : Fin cfg0.N) : Memref sig .tc .vmem S184x8 .f32 := win0_2.stage (cfg0.slots t 2)
abbrev hs0_2 (t : Fin cfg0.N) : (ms0_2 t).IsWhole := hstage0_2 0
abbrev ms0_3 (t : Fin cfg0.N) : Memref sig .tc .vmem S8x128 .f32 := win0_3.stage (cfg0.slots t 3)
abbrev hs0_3 (t : Fin cfg0.N) : (ms0_3 t).IsWhole := hstage0_3 0
abbrev ms0_4 (t : Fin cfg0.N) : Memref sig .tc .vmem S32x128 .f32 := win0_4.stage (cfg0.slots t 4)
abbrev hs0_4 (t : Fin cfg0.N) : (ms0_4 t).IsWhole := hstage0_4 0
abbrev ms0_5 (t : Fin cfg0.N) : Memref sig .tc .vmem S1x128 .f32 := win0_5.stage (cfg0.slots t 5)
abbrev hs0_5 (t : Fin cfg0.N) : (ms0_5 t).IsWhole := hstage0_5 0
abbrev ms0_6 (t : Fin cfg0.N) : Memref sig .tc .vmem S8x128 .f32 := win0_6.stage (cfg0.slots t 6)
abbrev hs0_6 (t : Fin cfg0.N) : (ms0_6 t).IsWhole := hstage0_6 0
abbrev ms0_7 (t : Fin cfg0.N) : Memref sig .tc .vmem S32x128 .f32 := win0_7.stage (cfg0.slots t 7)
abbrev hs0_7 (t : Fin cfg0.N) : (ms0_7 t).IsWhole := hstage0_7 0
abbrev ms0_8 (t : Fin cfg0.N) : Memref sig .tc .vmem S1x128 .f32 := win0_8.stage (cfg0.slots t 8)
abbrev hs0_8 (t : Fin cfg0.N) : (ms0_8 t).IsWhole := hstage0_8 0
abbrev ms0_9 (t : Fin cfg0.N) : Memref sig .tc .vmem S192x128 .f32 := win0_9.stage (cfg0.slots t 9)
abbrev hs0_9 (t : Fin cfg0.N) : (ms0_9 t).IsWhole := hstage0_9 0
abbrev ms0_10 (t : Fin cfg0.N) : Memref sig .tc .vmem S192x128 .f32 := win0_10.stage (cfg0.slots t 10)
abbrev hs0_10 (t : Fin cfg0.N) : (ms0_10 t).IsWhole := hstage0_10 0
abbrev ms0_11 (t : Fin cfg0.N) : Memref sig .tc .vmem S64x128 .f32 := win0_11.stage (cfg0.slots t 11)
abbrev hs0_11 (t : Fin cfg0.N) : (ms0_11 t).IsWhole := hstage0_11 0
abbrev ms0_12 (t : Fin cfg0.N) : Memref sig .tc .vmem S64x128 .f32 := win0_12.stage (cfg0.slots t 12)
abbrev hs0_12 (t : Fin cfg0.N) : (ms0_12 t).IsWhole := hstage0_12 0
abbrev ms0_13 (t : Fin cfg0.N) : Memref sig .tc .vmem S1x128 .f32 := win0_13.stage (cfg0.slots t 13)
abbrev hs0_13 (t : Fin cfg0.N) : (ms0_13 t).IsWhole := hstage0_13 0
abbrev ms0_14 (t : Fin cfg0.N) : Memref sig .tc .vmem S128x1024 .f32 := win0_14.stage (cfg0.slots t 14)
abbrev hs0_14 (t : Fin cfg0.N) : (ms0_14 t).IsWhole := hstage0_14 0
abbrev ms0_15 (t : Fin cfg0.N) : Memref sig .tc .vmem S1x1024 .f32 := win0_15.stage (cfg0.slots t 15)
abbrev hs0_15 (t : Fin cfg0.N) : (ms0_15 t).IsWhole := hstage0_15 0
abbrev ms0_16 (t : Fin cfg0.N) : Memref sig .tc .vmem S1024x1 .f32 := win0_16.stage (cfg0.slots t 16)
abbrev hs0_16 (t : Fin cfg0.N) : (ms0_16 t).IsWhole := hstage0_16 0
abbrev ms0_17 (t : Fin cfg0.N) : Memref sig .tc .vmem S1x1024 .f32 := win0_17.stage (cfg0.slots t 17)
abbrev hs0_17 (t : Fin cfg0.N) : (ms0_17 t).IsWhole := hstage0_17 0
abbrev ms0_18 (t : Fin cfg0.N) : Memref sig .tc .vmem S1024x1 .f32 := win0_18.stage (cfg0.slots t 18)
abbrev hs0_18 (t : Fin cfg0.N) : (ms0_18 t).IsWhole := hstage0_18 0
abbrev ms0_19 (t : Fin cfg0.N) : Memref sig .tc .vmem S1x1024 .f32 := win0_19.stage (cfg0.slots t 19)
abbrev hs0_19 (t : Fin cfg0.N) : (ms0_19 t).IsWhole := hstage0_19 0
abbrev ms0_20 (t : Fin cfg0.N) : Memref sig .tc .vmem S1024x64 .f32 := win0_20.stage (cfg0.slots t 20)
abbrev hs0_20 (t : Fin cfg0.N) : (ms0_20 t).IsWhole := hstage0_20 0
abbrev ms0_21 (t : Fin cfg0.N) : Memref sig .tc .vmem S64x16 .f32 := win0_21.stage (cfg0.slots t 21)
abbrev hs0_21 (t : Fin cfg0.N) : (ms0_21 t).IsWhole := hstage0_21 0
abbrev ms0_22 (t : Fin cfg0.N) : Memref sig .tc .vmem S1x64 .f32 := win0_22.stage (cfg0.slots t 22)
abbrev hs0_22 (t : Fin cfg0.N) : (ms0_22 t).IsWhole := hstage0_22 0
abbrev ms0_23 (t : Fin cfg0.N) : Memref sig .tc .vmem S64x10 .f32 := win0_23.stage (cfg0.slots t 23)
abbrev hs0_23 (t : Fin cfg0.N) : (ms0_23 t).IsWhole := hstage0_23 0
/-- The scratch operands: whole scoped buffers of the kernel's own, passed beside the windows. -/
abbrev scM0_0 : Memref sig .tc .vmem S8192x64 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The output block after the body at point `t`: `bodyOut` of the inputs' blocks there. -/
def outsAt0 (c : Dev nD) (t : Fin cfg0.N) : Vec F S64x10 .f32 :=
  bodyOut (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => (outsAt0 m c t)
    | ⟨_ + 24, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 2400000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23]
  rw [show (dats m 0 c).Φ t.castSucc = Pipeline.ΦA spec0 c from rfl, PhiA0_eq]
  unfold outsAt0
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (body_run (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) c Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexists _; iexact H23
  isplitl [HS0]; · iexact HS0
  iintro ⟨H0, H1, H2, H3, H4, H5, H6, H7, H8, H9, H10, H11, H12, H13, H14, H15, H16, H17, H18, H19, H20, H21, H22, H23, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  iexact H23

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18))
      ∧ r.2.sem = fun _ => 0) :=
  θ_run_and (unchanged m ρ) ((θ_run defs _ _).mono (fun _ h => h.2) (run_main_quiescent m ρ))

end Cert.KernelIdeal.Hand

end

end
-- ==== Proof.Ideal.Final.lean ====
/-
  What the kernel leaves in its result: the body's output of the arrays as the region finds them.
-/
module

public import proofs.«01_k».proof.Proof.Ideal.Launch
public import Idealize.ShloMosaic.Lib.Pipeline.ValueKit

@[expose] public section

set_option maxRecDepth 16384

noncomputable section

namespace Cert.KernelIdeal.Hand

open Idealize.ShloMosaic Idealize.ShloMosaic.StableHlo Cert.KernelIdeal Cert.KernelIdeal.Gen

variable {F : FTy → Type} [FloatOps F] (m : (l : Loc nD τ sig) → Buf (Elt F) l)

set_option maxHeartbeats 3000000 in
/-- Each input window's block is the whole array it stages. -/
theorem iblk_eq (c : Dev nD) (t : Fin cfg0.N) :
    iblk m c 0 t = V m c main_v2 ∧ iblk m c 1 t = V m c main_v0 ∧ iblk m c 2 t = V m c main_arg3 ∧ iblk m c 3 t = V m c
    main_arg4 ∧ iblk m c 4 t = V m c main_arg5 ∧ iblk m c 5 t = V m c main_v3 ∧ iblk m c 6 t = V m c main_arg7 ∧ iblk m
    c 7 t = V m c main_arg8 ∧ iblk m c 8 t = V m c main_v4 ∧ iblk m c 9 t = V m c main_v6 ∧ iblk m c 10 t = V m c
    main_v8 ∧ iblk m c 11 t = V m c main_v10 ∧ iblk m c 12 t = V m c main_v12 ∧ iblk m c 13 t = V m c main_v13 ∧ iblk m
    c 14 t = V m c main_arg12 ∧ iblk m c 15 t = V m c main_v14 ∧ iblk m c 16 t = V m c main_v15 ∧ iblk m c 17 t = V m c
    main_v16 ∧ iblk m c 18 t = V m c main_v17 ∧ iblk m c 19 t = V m c main_v18 ∧ iblk m c 20 t = V m c main_v21 ∧ iblk m
    c 21 t = V m c main_v25 ∧ iblk m c 22 t = V m c main_v28 := by
  refine ⟨?_, ?_, ?_, ?_, ?_, ?_, ?_, ?_, ?_, ?_, ?_, ?_, ?_, ?_, ?_, ?_, ?_, ?_, ?_, ?_, ?_, ?_, ?_⟩ <;>
    (funext j; unfold iblk; blk_simp
     refine congrArg _ (funext fun a => Fin.ext ?_)
     blk_simp
     exact Nat.add_eq_right.mpr (Nat.mul_eq_zero.mpr (Or.inl rfl)))

/-- The body's output of the arrays the region finds. -/
def result (c : Dev nD) : Vec F S64x10 .f32 :=
  bodyOut (V m c main_v2) (V m c main_v0) (V m c main_arg3) (V m c main_arg4) (V m c main_arg5) (V m c main_v3)
    (V m c main_arg7) (V m c main_arg8) (V m c main_v4) (V m c main_v6) (V m c main_v8) (V m c main_v10) (V m c main_v12)
    (V m c main_v13) (V m c main_arg12) (V m c main_v14) (V m c main_v15) (V m c main_v16) (V m c main_v17) (V m c main_v18)
    (V m c main_v21) (V m c main_v25) (V m c main_v28)

theorem outsAt0_eq (c : Dev nD) (t : Fin cfg0.N) : outsAt0 m c t = result m c := by
  obtain ⟨h0, h1, h2, h3, h4, h5, h6, h7, h8, h9, h10, h11, h12, h13, h14, h15, h16, h17, h18, h19, h20, h21, h22⟩ := iblk_eq m c t
  unfold outsAt0 result
  rw [h0, h1, h2, h3, h4, h5, h6, h7, h8, h9, h10, h11, h12, h13, h14, h15, h16, h17, h18, h19, h20, h21, h22]

/-- The result array after the region. -/
theorem arrAt_result (c : Dev nD) : (dats m 0 c).arrAt 23 cfg0.N = result m c := by
  refine (dats m 0 c).arrAt_eq_of_after_last 23 t0_0 (by decide +kernel) _ fun j => ?_
  blk_simp
  rw [after0_23, outsAt0_eq]

end Cert.KernelIdeal.Hand

end
-- ==== Proof.Ideal.Entry.lean ====
/-
  The arrays the region finds, of the arguments: reshapes, a transpose, slices and zero paddings.
-/
module

public import proofs.«01_k».proof.Proof.Ideal.Final
public import Idealize.ShloMosaic.Lib.Claim
public import Idealize.ShloMosaic.Lib.StableHlo.RunRead

@[expose] public section

set_option maxRecDepth 16384

noncomputable section

namespace Cert.KernelIdeal.Hand

open Idealize.ShloMosaic Idealize.ShloMosaic.StableHlo Cert.KernelIdeal
open Cert.KernelIdeal.Facts₀ Cert.KernelIdeal.Facts

variable {F : FTy → Type} [FloatOps F] (m : (l : Loc nD τ sig) → Buf (Elt F) l)

/-- The tokens, one column, token by token. -/
def eTok (z : IVec S64x5 32) : IVec S320x1 32 := shapeCast S320x1 (transpose S5x64 [1, 0] z transposes_S64x5_S5x64_1_0) shapeCasts_S5x64_S320x1

/-- The two taps' rows of the frames' features and of the tokens' state. -/
def eWx0 (w : FVec F S2x256x128 .f32) : FVec F S192x128 .f32 :=
  shapeCast S192x128 (extractStridedSlice S1x192x128 ![0, 0, 0] w slices_S2x256x128_S1x192x128_0_0_0) shapeCasts_S1x192x128_S192x128
@[inherit_doc eWx0]
def eWx1 (w : FVec F S2x256x128 .f32) : FVec F S192x128 .f32 :=
  shapeCast S192x128 (extractStridedSlice S1x192x128 ![1, 0, 0] w slices_S2x256x128_S1x192x128_1_0_0) shapeCasts_S1x192x128_S192x128
@[inherit_doc eWx0]
def eWz0 (w : FVec F S2x256x128 .f32) : FVec F S64x128 .f32 :=
  shapeCast S64x128 (extractStridedSlice S1x64x128 ![0, 192, 0] w slices_S2x256x128_S1x64x128_0_192_0) shapeCasts_S1x64x128_S64x128
@[inherit_doc eWx0]
def eWz1 (w : FVec F S2x256x128 .f32) : FVec F S64x128 .f32 :=
  shapeCast S64x128 (extractStridedSlice S1x64x128 ![1, 192, 0] w slices_S2x256x128_S1x64x128_1_192_0) shapeCasts_S1x64x128_S64x128

/-- The frames' LSTM's weights with each gate's ten columns padded by zeros to sixteen. -/
def eWl (w : FVec F S1024x40 .f32) : FVec F S1024x64 .f32 :=
  shapeCast S1024x64 (pad S1024x4x16 ![0, 0, 0] ![0, 0, 6] ![0, 0, 0] (shapeCast S1024x4x10 w shapeCasts_S1024x40_S1024x4x10)
    (sitofp .f32 (constantI S_ 32 0#32) : FVec F S_ .f32) pads_S1024x4x10_S1024x4x16_000_000_060 h_S_) shapeCasts_S1024x4x16_S1024x64
@[inherit_doc eWl]
def eUl (w : FVec F S10x40 .f32) : FVec F S64x16 .f32 :=
  shapeCast S64x16 (pad S4x16x16 ![0, 0, 0] ![0, 6, 6] ![0, 0, 0]
    (shapeCast S4x10x10 (transpose S40x10 [1, 0] w transposes_S10x40_S40x10_1_0) shapeCasts_S40x10_S4x10x10)
    (sitofp .f32 (constantI S_ 32 0#32) : FVec F S_ .f32) pads_S4x10x10_S4x16x16_000_060_060 h_S_) shapeCasts_S4x16x16_S64x16
@[inherit_doc eWl]
def eBl (w : FVec F S40 .f32) : FVec F S1x64 .f32 :=
  shapeCast S1x64 (pad S4x16 ![0, 0] ![0, 6] ![0, 0] (shapeCast S4x10 w shapeCasts_S40_S4x10)
    (sitofp .f32 (constantI S_ 32 0#32) : FVec F S_ .f32) pads_S4x10_S4x16_000_060 h_S_) shapeCasts_S4x16_S1x64

/-- The body's output of the arguments. -/
def kernelOut (x : FVec F S64x128x192 .f32) (z : IVec S64x5 32) (emb : FVec F S184x8 .f32) (Wf : FVec F S8x128 .f32)
    (Uf : FVec F S32x128 .f32) (bf : FVec F S128 .f32) (Wb : FVec F S8x128 .f32) (Ub : FVec F S32x128 .f32)
    (bb : FVec F S128 .f32) (Wc : FVec F S2x256x128 .f32) (bc : FVec F S128 .f32) (Wd : FVec F S128x1024 .f32)
    (bd gamma beta : FVec F S1024 .f32) (Wl : FVec F S1024x40 .f32) (Ul : FVec F S10x40 .f32) (bl : FVec F S40 .f32) :
    FVec F S64x10 .f32 :=
  bodyOut (eTok z) (shapeCast S8192x192 x shapeCasts_S64x128x192_S8192x192) emb Wf Uf (shapeCast S1x128 bf shapeCasts_S128_S1x128)
    Wb Ub (shapeCast S1x128 bb shapeCasts_S128_S1x128) (eWx0 Wc) (eWx1 Wc) (eWz0 Wc) (eWz1 Wc)
    (shapeCast S1x128 bc shapeCasts_S128_S1x128) Wd (shapeCast S1x1024 bd shapeCasts_S1024_S1x1024)
    (shapeCast S1024x1 bd shapeCasts_S1024_S1024x1) (shapeCast S1x1024 gamma shapeCasts_S1024_S1x1024)
    (shapeCast S1024x1 gamma shapeCasts_S1024_S1024x1) (shapeCast S1x1024 beta shapeCasts_S1024_S1x1024) (eWl Wl) (eUl Ul) (eBl bl)

set_option maxHeartbeats 1600000 in
/-- What the region leaves, of the arguments. -/
theorem result_eq (c : Dev nD) : result m c = kernelOut (m ((c.tc : Thread nD τ).loc main_arg0)) (m ((c.tc : Thread nD τ).loc main_arg1))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))
    (m ((c.tc : Thread nD τ).loc main_arg12)) (m ((c.tc : Thread nD τ).loc main_arg13)) (m ((c.tc : Thread nD τ).loc main_arg14))
    (m ((c.tc : Thread nD τ).loc main_arg15)) (m ((c.tc : Thread nD τ).loc main_arg16)) (m ((c.tc : Thread nD τ).loc main_arg17))
    (m ((c.tc : Thread nD τ).loc main_arg18)) := by
  unfold result
  entry_read
  rfl

end Cert.KernelIdeal.Hand

end
-- ==== Proof.Ref.Tokens.lean ====
/-
  The reference's two token LSTMs as tensors: one step of a cell as the reference's operations compute it, five of them
  for each direction, and what the straight line of operations leaves for the frames.
-/
module

public import proofs.«01_k».proof.Proof.Gen.ReferenceIdeal.Run
public import Idealize.ShloMosaic.Lib.StableHlo.RunRead
public import Idealize.ShloMosaic.Lib.Pointwise

@[expose] public section

set_option maxRecDepth 16384

noncomputable section

namespace Cert.ReferenceIdeal.Hand

open Idealize.ShloMosaic Idealize.ShloMosaic.StableHlo Cert.ReferenceIdeal Cert.ReferenceIdeal.Value
open Cert.ReferenceIdeal.Facts₀ Cert.ReferenceIdeal.Facts

/-- A token's four gates before their activations: its embedding through `W`, the state through `U`, and the bias. -/
def tokGates (W : FVec Ideal S8x128 .f32) (U : FVec Ideal S32x128 .f32) (b : FVec Ideal S128 .f32)
    (e : FVec Ideal S64x8 .f32) (h : FVec Ideal S64x32 .f32) : FVec Ideal S64x128 .f32 :=
  addf (addf (Host.dotGeneral dot_S64x8_S8x128_S64x128_1_0_0_1_n_n none e W)
      (Host.dotGeneral dot_S64x32_S32x128_S64x128_1_0_0_1_n_n none h U))
    (broadcastInDim S64x128 ![0, 1] bcast_S1x128_S64x128_0_1 (broadcastInDim S1x128 ![1] bcast_S128_S1x128_1 b))

/-- The logistic function as the reference spells it, `1 / (1 + exp (-v))`. -/
def tokSig (v : FVec Ideal S64x32 .f32) : FVec Ideal S64x32 .f32 :=
  Host.divf (broadcastInDim S64x32 ![] bcast_S_S64x32 (constant S_ .f32 0x3F800000#32))
    (addf (broadcastInDim S64x32 ![] bcast_S_S64x32 (constant S_ .f32 0x3F800000#32)) (Host.exp (Host.negf v)))

/-- The next cell of the gates `g` and the cell `c`. -/
def tokCell (g : FVec Ideal S64x128 .f32) (c : FVec Ideal S64x32 .f32) : FVec Ideal S64x32 .f32 :=
  addf (mulf (tokSig (extractStridedSlice S64x32 ![0, 32] g slices_S64x128_S64x32_0_32)) c)
    (mulf (tokSig (extractStridedSlice S64x32 ![0, 0] g slices_S64x128_S64x32_0_0))
      (Host.tanh (extractStridedSlice S64x32 ![0, 64] g slices_S64x128_S64x32_0_64)))

/-- The next state of the gates `g` and the next cell `c`. -/
def tokHid (g : FVec Ideal S64x128 .f32) (c : FVec Ideal S64x32 .f32) : FVec Ideal S64x32 .f32 :=
  mulf (tokSig (extractStridedSlice S64x32 ![0, 96] g slices_S64x128_S64x32_0_96)) (Host.tanh c)

/-- One step of a token LSTM: the next state and the next cell. -/
def tokStep (W : FVec Ideal S8x128 .f32) (U : FVec Ideal S32x128 .f32) (b : FVec Ideal S128 .f32)
    (e : FVec Ideal S64x8 .f32) (s : FVec Ideal S64x32 .f32 × FVec Ideal S64x32 .f32) :
    FVec Ideal S64x32 .f32 × FVec Ideal S64x32 .f32 :=
  (tokHid (tokGates W U b e s.1) (tokCell (tokGates W U b e s.1) s.2), tokCell (tokGates W U b e s.1) s.2)

/-- The zero state. -/
def tokZero : FVec Ideal S64x32 .f32 := broadcastInDim S64x32 ![] bcast_S_S64x32 (constant S_ .f32 0x00000000#32)

/-- The embeddings of one token, of all the texts' embeddings `ze`. -/
def tokAt (ze : FVec Ideal S64x5x8 .f32) (off : Fin 3 → ℕ) (h : S64x5x8.Slices off S64x1x8) : FVec Ideal S64x8 .f32 :=
  shapeCast S64x8 (extractStridedSlice S64x1x8 off ze h) shapeCasts_S64x1x8_S64x8

/-- The last state of a token LSTM over the five tokens of each text. -/
def tokRun (W : FVec Ideal S8x128 .f32) (U : FVec Ideal S32x128 .f32) (b : FVec Ideal S128 .f32)
    (ze : FVec Ideal S64x5x8 .f32) : FVec Ideal S64x32 .f32 :=
  (tokStep W U b (tokAt ze ![0, 4, 0] slices_S64x5x8_S64x1x8_0_4_0)
    (tokStep W U b (tokAt ze ![0, 3, 0] slices_S64x5x8_S64x1x8_0_3_0)
      (tokStep W U b (tokAt ze ![0, 2, 0] slices_S64x5x8_S64x1x8_0_2_0)
        (tokStep W U b (tokAt ze ![0, 1, 0] slices_S64x5x8_S64x1x8_0_1_0)
          (tokStep W U b (tokAt ze ![0, 0, 0] slices_S64x5x8_S64x1x8_0_0_0) (tokZero, tokZero)))))).1

/-- After the reference's second stretch of operations the forward token LSTM's last state stands in its buffer. -/
theorem after_fwd (V : Valuation τ sig (Elt Ideal)) :
    after Gen.hostOps0_1 V (Proc.devRef .tc main_v182) = tokRun (V (Proc.devRef .tc main_arg4)) (V (Proc.devRef .tc main_arg5))
      (V (Proc.devRef .tc main_arg6)) (V (Proc.devRef .tc main_v0)) := by
  after_reads_simp
  rfl

/-- After the same stretch the backward token LSTM's last state stands in its buffer. -/
theorem after_bwd (V : Valuation τ sig (Elt Ideal)) :
    after Gen.hostOps0_1 V (Proc.devRef .tc main_v365) = tokRun (V (Proc.devRef .tc main_arg7)) (V (Proc.devRef .tc main_arg8))
      (V (Proc.devRef .tc main_arg9)) (Host.reverse [1] (V (Proc.devRef .tc main_v0))) := by
  after_reads_simp
  rfl

/-- The two directions' last states beside each other, written along the frames and set beside the frames' features. -/
def catFrames (x : FVec Ideal S64x128x192 .f32) (hf hb : FVec Ideal S64x32 .f32) : FVec Ideal S64x128x256 .f32 :=
  concatenate S64x128x256 2 [⟨S64x128x192, x⟩, ⟨S64x128x64,
    shapeCast S64x128x64 (shapeCast S8192x64 (broadcastInDim S128x64x1x64 ![0, 1, 2, 3] bcast_S1x64x1x64_S128x64x1x64_0_1_2_3
      (shapeCast S1x64x1x64 (concatenate S64x64 1 [⟨S64x32, hf⟩, ⟨S64x32, hb⟩] concatenates_S64x32_S64x32_S64x64_d1)
        shapeCasts_S64x64_S1x64x1x64)) shapeCasts_S128x64x1x64_S8192x64) shapeCasts_S8192x64_S64x128x64⟩]
    concatenates_S64x128x192_S64x128x64_S64x128x256_d2

/-- The second stretch's operations after both token LSTMs. -/
abbrev catOps : List (HloOp τ sig (Elt Ideal)) := (Gen.hostOps0_1 (F := Ideal)).drop 429

/-- What those operations leave in the joined features' buffer. -/
theorem after_catOps (X : Valuation τ sig (Elt Ideal)) : after catOps X (Proc.devRef .tc main_v371)
    = catFrames (X (Proc.devRef .tc main_arg0)) (X (Proc.devRef .tc main_v182)) (X (Proc.devRef .tc main_v365)) := by
  simp only [catOps, Gen.hostOps0_1, List.drop_succ_cons, List.drop_zero]
  after_reads_simp
  rfl

/-- They leave the features and both token LSTMs' states alone. -/
theorem after_catOps_kept (X : Valuation τ sig (Elt Ideal)) :
    after catOps X (Proc.devRef .tc main_arg0) = X (Proc.devRef .tc main_arg0)
      ∧ after catOps X (Proc.devRef .tc main_v182) = X (Proc.devRef .tc main_v182)
      ∧ after catOps X (Proc.devRef .tc main_v365) = X (Proc.devRef .tc main_v365) := by
  simp only [catOps, Gen.hostOps0_1, List.drop_succ_cons, List.drop_zero]
  refine ⟨?_, ?_, ?_⟩ <;> after_reads_simp

/-- The stretch is what stands before those operations, then those operations. -/
theorem after_split (ops₁ ops₂ : List (HloOp τ sig (Elt Ideal))) (V : Valuation τ sig (Elt Ideal)) :
    after (ops₁ ++ ops₂) V = after ops₂ (after ops₁ V) := by
  induction ops₁ generalizing V with
  | nil => rfl
  | cons op ops ih => simp only [List.cons_append, after_cons, ih]

/-- After the reference's second stretch of operations: the frames' features beside the two token LSTMs' last states. -/
theorem after_cat (V : Valuation τ sig (Elt Ideal)) :
    after Gen.hostOps0_1 V (Proc.devRef .tc main_v371) = catFrames (V (Proc.devRef .tc main_arg0))
      (tokRun (V (Proc.devRef .tc main_arg4)) (V (Proc.devRef .tc main_arg5)) (V (Proc.devRef .tc main_arg6)) (V (Proc.devRef .tc main_v0)))
      (tokRun (V (Proc.devRef .tc main_arg7)) (V (Proc.devRef .tc main_arg8)) (V (Proc.devRef .tc main_arg9))
        (Host.reverse [1] (V (Proc.devRef .tc main_v0)))) := by
  have hs : after Gen.hostOps0_1 V = after catOps (after ((Gen.hostOps0_1 (F := Ideal)).take 429) V) := by
    rw [← after_split, List.take_append_drop]
  have hk := after_catOps_kept (after ((Gen.hostOps0_1 (F := Ideal)).take 429) V)
  rw [← after_fwd, ← after_bwd, ← Value.keep_main_arg0_hostOps0_1 V, hs, after_catOps, hk.1, hk.2.1, hk.2.2]

/-- The same stretch leaves the padding's number at zero. -/
theorem after_cat_c (V : Valuation τ sig (Elt Ideal)) :
    after Gen.hostOps0_1 V (Proc.devRef .tc main_c) = constantI S_ 32 0#32 := by
  after_reads_simp

end Cert.ReferenceIdeal.Hand

end
-- ==== Proof.Ref.Frames.lean ====
/-
  The reference's other stretches of host operations as tensors: the embedding lookup, the padding, the convolution, the
  dense layer, its mean and variance, the normalisation, and what the frames' LSTM starts from.
-/
module

public import proofs.«01_k».proof.Proof.Ref.Tokens

@[expose] public section

set_option maxRecDepth 16384

noncomputable section

namespace Cert.ReferenceIdeal.Hand

open Idealize.ShloMosaic Idealize.ShloMosaic.StableHlo Cert.ReferenceIdeal Cert.ReferenceIdeal.Value
open Cert.ReferenceIdeal.Facts₀ Cert.ReferenceIdeal.Facts

/-- A token made a row number: a negative one counts from the table's end. -/
def wrapTok (z : IVec S64x5 32) : IVec S64x5x1 32 :=
  broadcastInDim S64x5x1 ![0, 1] bcast_S64x5_S64x5x1_0_1
    (select (cmpi .slt z (broadcastInDim S64x5 ![] bcast_S_S64x5 (constantI S_ 32 0#32)))
      (addi z (broadcastInDim S64x5 ![] bcast_S_S64x5 (constantI S_ 32 184#32))) z)

/-- Which tokens name a row of the table. -/
def tokIn (z : IVec S64x5 32) : IVec S64x5 1 :=
  Host.reduce IntOp.andi
    (andi (cmpi .sge (wrapTok z) (broadcastInDim S64x5x1 ![] bcast_S_S64x5x1 (constantI S_ 32 0#32)))
      (cmpi .sle (wrapTok z) (broadcastInDim S64x5x1 ![0, 1, 2] bcast_S1x1x1_S64x5x1_0_1_2
        (broadcastInDim S1x1x1 ![2] bcast_S1_S1x1x1_2 (constantI S1 32 183#32)))))
    (constantI S_ 1 1#1) reducesTo_S64x5x1_S64x5_d2 h_S_

/-- The embeddings of the tokens: the table's rows, and a fill value where a token names none. -/
def takeRows (emb : FVec Ideal S184x8 .f32) (z : IVec S64x5 32) : FVec Ideal S64x5x8 .f32 :=
  select (broadcastInDim S64x5x8 ![0, 1] bcast_S64x5_S64x5x8_0_1 (tokIn z))
    (Host.gather gather_S184x8_S64x5x1_S64x5x8_2_0_n_n_0_2_18 emb (wrapTok z))
    (broadcastInDim S64x5x8 ![] bcast_S_S64x5x8 (constant S_ .f32 0x7FC00000#32))

/-- After the first stretch the tokens' embeddings stand in their buffer. -/
theorem after_take (V : Valuation τ sig (Elt Ideal)) : after Gen.hostOps0 V (Proc.devRef .tc main_v0)
    = takeRows (V (Proc.devRef .tc main_arg3)) (V (Proc.devRef .tc main_arg1)) := by
  after_reads_simp
  rfl

/-- The frames' features with a row of zeros after the last frame. -/
def padFrames (xc : FVec Ideal S64x128x256 .f32) (v : IVec S_ 32) : FVec Ideal S64x129x256 .f32 :=
  pad S64x129x256 ![0, 0, 0] ![0, 1, 0] ![0, 0, 0] xc (sitofp .f32 v : FVec Ideal S_ .f32)
    pads_S64x128x256_S64x129x256_000_010_000 h_S_

/-- After the third stretch the padded features stand in their buffer. -/
theorem after_pad (V : Valuation τ sig (Elt Ideal)) : after Gen.hostOps0_2 V (Proc.devRef .tc main_v372)
    = padFrames (V (Proc.devRef .tc main_v371)) (V (Proc.devRef .tc main_c)) := by
  after_reads_simp
  rfl

/-- The convolution: each frame through the first tap, the next frame through the second, and the bias. -/
def convFrames (xp : FVec Ideal S64x129x256 .f32) (Wc : FVec Ideal S2x256x128 .f32) (bc : FVec Ideal S128 .f32) :
    FVec Ideal S64x128x128 .f32 :=
  addf (addf
      (Host.dotGeneral dot_S64x128x256_S256x128_S64x128x128_2_0_01_1_n_n none
        (extractStridedSlice S64x128x256 ![0, 0, 0] xp slices_S64x129x256_S64x128x256_0_0_0)
        (shapeCast S256x128 (extractStridedSlice S1x256x128 ![0, 0, 0] Wc slices_S2x256x128_S1x256x128_0_0_0) shapeCasts_S1x256x128_S256x128))
      (Host.dotGeneral dot_S64x128x256_S256x128_S64x128x128_2_0_01_1_n_n none
        (extractStridedSlice S64x128x256 ![0, 1, 0] xp slices_S64x129x256_S64x128x256_0_1_0)
        (shapeCast S256x128 (extractStridedSlice S1x256x128 ![1, 0, 0] Wc slices_S2x256x128_S1x256x128_1_0_0) shapeCasts_S1x256x128_S256x128)))
    (broadcastInDim S64x128x128 ![0, 1, 2] bcast_S1x1x128_S64x128x128_0_1_2 (broadcastInDim S1x1x128 ![2] bcast_S128_S1x1x128_2 bc))

/-- After the fourth stretch the convolution stands in its buffer. -/
theorem after_conv (V : Valuation τ sig (Elt Ideal)) : after Gen.hostOps0_3 V (Proc.devRef .tc main_v384)
    = convFrames (V (Proc.devRef .tc main_v372)) (V (Proc.devRef .tc main_arg10)) (V (Proc.devRef .tc main_arg11)) := by
  after_reads_simp
  rfl

/-- The positive part. -/
def reluFrames (y : FVec Ideal S64x128x128 .f32) : FVec Ideal S64x128x128 .f32 :=
  maximumf y (broadcastInDim S64x128x128 ![] bcast_S_S64x128x128 (constant S_ .f32 0x00000000#32))

/-- After the fifth stretch the positive part stands in its buffer. -/
theorem after_relu (V : Valuation τ sig (Elt Ideal)) : after Gen.hostOps0_4 V (Proc.devRef .tc main_v385)
    = reluFrames (V (Proc.devRef .tc main_v384)) := by
  after_reads_simp
  rfl

/-- The dense layer. -/
def denseFrames (y : FVec Ideal S64x128x128 .f32) (Wd : FVec Ideal S128x1024 .f32) (bd : FVec Ideal S1024 .f32) :
    FVec Ideal S64x128x1024 .f32 :=
  addf (Host.dotGeneral dot_S64x128x128_S128x1024_S64x128x1024_2_0_01_1_n_n none y Wd)
    (broadcastInDim S64x128x1024 ![0, 1, 2] bcast_S1x1x1024_S64x128x1024_0_1_2 (broadcastInDim S1x1x1024 ![2] bcast_S1024_S1x1x1024_2 bd))

/-- The mean over the hidden units. -/
def meanFrames (h : FVec Ideal S64x128x1024 .f32) : FVec Ideal S64x128x1 .f32 :=
  Host.divf (broadcastInDim S64x128x1 ![0, 1] bcast_S64x128_S64x128x1_0_1
      (Host.reduceAdd h (constant S_ .f32 0x00000000#32) reducesTo_S64x128x1024_S64x128_d2 h_S_))
    (broadcastInDim S64x128x1 ![] bcast_S_S64x128x1 (constant S_ .f32 0x44800000#32))

/-- After the sixth stretch the dense layer stands in its buffer. -/
theorem after_dense (V : Valuation τ sig (Elt Ideal)) : after Gen.hostOps0_5 V (Proc.devRef .tc main_v389)
    = denseFrames (V (Proc.devRef .tc main_v385)) (V (Proc.devRef .tc main_arg12)) (V (Proc.devRef .tc main_arg13)) := by
  after_reads_simp
  rfl

/-- After the sixth stretch the dense layer's mean stands in its buffer. -/
theorem after_mean (V : Valuation τ sig (Elt Ideal)) : after Gen.hostOps0_5 V (Proc.devRef .tc main_v393)
    = meanFrames (denseFrames (V (Proc.devRef .tc main_v385)) (V (Proc.devRef .tc main_arg12)) (V (Proc.devRef .tc main_arg13))) := by
  after_reads_simp
  rfl

/-- The sixth stretch leaves the variance's correction at zero. -/
theorem after_ddof (V : Valuation τ sig (Elt Ideal)) : after Gen.hostOps0_5 V (Proc.devRef .tc main_c_65) = constantI S_ 32 0#32 := by
  after_reads_simp

/-- How many terms the variance averages over: the hidden units less the correction. -/
def varCount (k : IVec S_ 32) : FVec Ideal S_ .f32 := subf (constant S_ .f32 0x44800000#32) (sitofp .f32 k)

/-- The variance over the hidden units, and a fill value where the average has no terms. -/
def varFrames (h : FVec Ideal S64x128x1024 .f32) (k : IVec S_ 32) : FVec Ideal S64x128x1 .f32 :=
  select (broadcastInDim S64x128x1 ![] bcast_S_S64x128x1 (cmpf .ogt (varCount k) (constant S_ .f32 0x00000000#32)))
    (Host.divf (broadcastInDim S64x128x1 ![0, 1] bcast_S64x128_S64x128x1_0_1
        (Host.reduceAdd (mulf (subf h (broadcastInDim S64x128x1024 ![0, 1, 2] bcast_S64x128x1_S64x128x1024_0_1_2 (meanFrames h)))
            (subf h (broadcastInDim S64x128x1024 ![0, 1, 2] bcast_S64x128x1_S64x128x1024_0_1_2 (meanFrames h))))
          (constant S_ .f32 0x00000000#32) reducesTo_S64x128x1024_S64x128_d2 h_S_))
      (broadcastInDim S64x128x1 ![] bcast_S_S64x128x1 (varCount k)))
    (broadcastInDim S64x128x1 ![] bcast_S_S64x128x1 (constant S_ .f32 0x7FC00000#32))

/-- After the seventh stretch the variance stands in its buffer. -/
theorem after_var (V : Valuation τ sig (Elt Ideal)) : after Gen.hostOps0_6 V (Proc.devRef .tc main_v394)
    = varFrames (V (Proc.devRef .tc main_v389)) (V (Proc.devRef .tc main_c_65)) := by
  after_reads_simp
  rfl

/-- The normalised dense layer, scaled and shifted, with the frames first. -/
def normFrames (h : FVec Ideal S64x128x1024 .f32) (mu var : FVec Ideal S64x128x1 .f32) (gamma beta : FVec Ideal S1024 .f32) :
    FVec Ideal S128x64x1024 .f32 :=
  transpose S128x64x1024 [1, 0, 2]
    (addf (mulf (Host.divf (subf h (broadcastInDim S64x128x1024 ![0, 1, 2] bcast_S64x128x1_S64x128x1024_0_1_2 mu))
        (broadcastInDim S64x128x1024 ![0, 1, 2] bcast_S64x128x1_S64x128x1024_0_1_2
          (Host.sqrt (addf var (broadcastInDim S64x128x1 ![] bcast_S_S64x128x1 (constant S_ .f32 0x358637BD#32))))))
      (broadcastInDim S64x128x1024 ![0, 1, 2] bcast_S1x1x1024_S64x128x1024_0_1_2 (broadcastInDim S1x1x1024 ![2] bcast_S1024_S1x1x1024_2 gamma)))
    (broadcastInDim S64x128x1024 ![0, 1, 2] bcast_S1x1x1024_S64x128x1024_0_1_2 (broadcastInDim S1x1x1024 ![2] bcast_S1024_S1x1x1024_2 beta)))
    transposes_S64x128x1024_S128x64x1024_1_0_2

/-- After the last stretch the frames' LSTM's inputs stand in their buffer. -/
theorem after_norm (V : Valuation τ sig (Elt Ideal)) : after Gen.hostOps0_7 V (Proc.devRef .tc main_v411_0)
    = normFrames (V (Proc.devRef .tc main_v389)) (V (Proc.devRef .tc main_v393)) (V (Proc.devRef .tc main_v394))
        (V (Proc.devRef .tc main_arg14)) (V (Proc.devRef .tc main_arg15)) := by
  after_reads_simp
  rfl

end Cert.ReferenceIdeal.Hand

end
-- ==== Proof.Join.Embed.lean ====
/-
  The embedding lookup: the kernel's one-hot product and the reference's row lookup are the same rows of the table.
-/
module

public import proofs.«01_k».proof.Proof.Ideal.Entry
public import proofs.«01_k».proof.Proof.Ref.Frames

@[expose] public section

set_option maxRecDepth 16384

noncomputable section

namespace Cert.Join

open Idealize.ShloMosaic Cert.ReferenceIdeal Cert.ReferenceIdeal.Facts₀ Cert.ReferenceIdeal.Facts
open Cert.ReferenceIdeal.Hand (wrapTok tokIn takeRows)

/-- The row lookup at an index: the table's row at the start index, read signed and clamped into the table. -/
theorem gather_row (emb : FVec Ideal S184x8 .f32) (idx : IVec S64x5x1 32) (b : Fin 64) (t : Fin 5) (k : Fin 8) :
    Host.gather gather_S184x8_S64x5x1_S64x5x8_2_0_n_n_0_2_18 emb idx (ix3 b t k)
      = emb (ix2 ⟨min (idx (ix3 b t (0 : Fin 1))).toInt.toNat 183, by omega⟩ k) := by
  unfold Host.gather
  congr 1
  funext a
  refine Fin.ext ?_
  show (gather_S184x8_S64x5x1_S64x5x8_2_0_n_n_0_2_18).start _ idx a + (gather_S184x8_S64x5x1_S64x5x8_2_0_n_n_0_2_18).batchCoord _ a
      + (gather_S184x8_S64x5x1_S64x5x8_2_0_n_n_0_2_18).offCoord _ a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S184x8_S64x5x1_S64x5x8_2_0_n_n_0_2_18).startIndexMap from List.mem_singleton.mpr rfl)]
    have hsi : (gather_S184x8_S64x5x1_S64x5x8_2_0_n_n_0_2_18).siIdx (ix3 b t k)
        ⟨List.idxOf (0 : Fin 2) (gather_S184x8_S64x5x1_S64x5x8_2_0_n_n_0_2_18).startIndexMap,
          List.idxOf_lt_length_iff.2 (List.mem_singleton.mpr rfl)⟩ = ix3 b t (0 : Fin 1) := by
      funext a; refine Fin.ext ?_
      match a with
      | ⟨0, _⟩ => rfl
      | ⟨1, _⟩ => rfl
      | ⟨2, _⟩ => rfl
    rw [hsi]
    rfl
  · unfold GatherDims.start
    rw [dif_neg (show ¬ (1 : Fin 2) ∈ (gather_S184x8_S64x5x1_S64x5x8_2_0_n_n_0_2_18).startIndexMap from by
      intro h; exact absurd (List.mem_singleton.mp h) (by decide))]
    have hk : (1 : Fin 2) ∈ (gather_S184x8_S64x5x1_S64x5x8_2_0_n_n_0_2_18).sKept :=
      (GatherDims.mem_sKept _ _).mpr ⟨fun h => absurd (List.mem_singleton.mp h) (by decide), List.not_mem_nil⟩
    unfold GatherDims.offCoord
    rw [dif_pos hk]
    simp only [Nat.zero_add]
    rfl

/-- A token in the vocabulary is its own row number. -/
theorem wrapTok_apply (z : IVec S64x5 32) (b : Fin 64) (t : Fin 5) (h0 : 0 ≤ (z (ix2 b t)).toInt) :
    wrapTok z (ix3 b t (0 : Fin 1)) = z (ix2 b t) := by
  pointwise [wrapTok]
  have h : IntOp.cmpi CmpIPredicate.slt (z (ix2 b t)) 0#32 = 0#1 := by
    show BitVec.ofBool (decide ((z (ix2 b t)).toInt < 0)) = _
    rw [decide_eq_false (by omega)]
    rfl
  rw [h]
  rfl

/-- A token in the vocabulary names a row. -/
theorem tokIn_apply (z : IVec S64x5 32) (b : Fin 64) (t : Fin 5) (h0 : 0 ≤ (z (ix2 b t)).toInt) (h1 : (z (ix2 b t)).toInt < 184) :
    tokIn z (ix2 b t) = 1#1 := by
  pointwise [tokIn]
  have he : ∀ x : Fin 1, wrapTok z (ix3 b t x) = z (ix2 b t) := fun x => by
    obtain rfl : x = 0 := Subsingleton.elim _ _
    exact wrapTok_apply z b t h0
  simp only [he]
  rw [Finset.univ_unique, Finset.fold_singleton]
  have h2 : IntOp.cmpi CmpIPredicate.sge (z (ix2 b t)) 0#32 = 1#1 := IntOp.cmpi_sge.mpr (by simpa using h0)
  have h3 : IntOp.cmpi CmpIPredicate.sle (z (ix2 b t)) 183#32 = 1#1 :=
    IntOp.cmpi_sle.mpr (by show _ ≤ (183 : Int); omega)
  rw [h2, h3]
  rfl

/-- The tokens' embeddings at an index: the token's row. -/
theorem takeRows_apply (emb : FVec Ideal S184x8 .f32) (z : IVec S64x5 32) (b : Fin 64) (t : Fin 5) (k : Fin 8)
    (h0 : 0 ≤ (z (ix2 b t)).toInt) (h1 : (z (ix2 b t)).toInt < 184) :
    takeRows emb z (ix3 b t k) = emb (ix2 ⟨(z (ix2 b t)).toInt.toNat, by omega⟩ k) := by
  pointwise [takeRows]
  rw [tokIn_apply z b t h0 h1, gather_row]
  show emb _ = _
  congr 2
  refine Fin.ext ?_
  show min (wrapTok z (ix3 b t (0 : Fin 1))).toInt.toNat 183 = (z (ix2 b t)).toInt.toNat
  rw [wrapTok_apply z b t h0]
  omega

/-- A small word is the word of its number. -/
theorem word_eq_iff (w : BitVec 32) (h0 : 0 ≤ w.toInt) (h1 : w.toInt < 184) (v : Fin 184) :
    w = BitVec.ofNat 32 v.val ↔ w.toInt.toNat = v.val := by
  have hv := v.isLt
  have hw := BitVec.toInt_eq_toNat_cond w
  rw [BitVec.toNat_eq, BitVec.toNat_ofNat, Nat.mod_eq_of_lt (by omega)]
  split at hw <;> omega

/-- The kernel's one-hot product at an index: the table's row. -/
theorem oneHot_apply (zc : IVec Cert.KernelIdeal.S320x1 32) (emb : FVec Ideal S184x8 .f32) (r : Fin 320) (k : Fin 8)
    (h0 : 0 ≤ (zc (ix2 r (0 : Fin 1))).toInt) (h1 : (zc (ix2 r (0 : Fin 1))).toInt < 184) :
    Cert.KernelIdeal.Gen.k0_pay1 (F := Ideal) zc emb (ix2 r k) = emb (ix2 ⟨(zc (ix2 r (0 : Fin 1))).toInt.toNat, by omega⟩ k) := by
  pointwise [Cert.KernelIdeal.Gen.k0_pay1]
  rw [Finset.sum_eq_single (⟨(zc (ix2 r (0 : Fin 1))).toInt.toNat, by omega⟩ : Fin 184)]
  · have h : IntOp.cmpi CmpIPredicate.eq (zc (ix2 r (0 : Fin 1))) (BitVec.ofNat 32 (zc (ix2 r (0 : Fin 1))).toInt.toNat) = 1#1 := by
      exact IntOp.cmpi_eq.mpr ((word_eq_iff _ h0 h1 ⟨(zc (ix2 r (0 : Fin 1))).toInt.toNat, by omega⟩).mpr rfl)
    rw [h]
    have h1 : (FloatOps.sitofp FTy.f32 (BitVec.setWidth 32 1#1) : Ideal .f32) = (1 : EReal) := by
      show (((BitVec.setWidth 32 1#1 : BitVec 32).toInt : ℝ) : EReal) = 1
      norm_num
    rw [h1, one_mul]
  · intro v _ hv
    have h : IntOp.cmpi CmpIPredicate.eq (zc (ix2 r (0 : Fin 1))) (BitVec.ofNat 32 v.val) = 0#1 := by
      show BitVec.ofBool (decide _) = 0#1
      rw [decide_eq_false]
      · rfl
      · intro he
        exact hv (Fin.ext ((word_eq_iff _ h0 h1 v).mp he).symm)
    rw [h]
    have h1 : (FloatOps.sitofp FTy.f32 (BitVec.setWidth 32 0#1) : Ideal .f32) = (0 : EReal) := by
      show (((BitVec.setWidth 32 0#1 : BitVec 32).toInt : ℝ) : EReal) = 0
      norm_num
    rw [h1, zero_mul]
  · exact fun h => absurd (Finset.mem_univ _) h

/-- The kernel's column of tokens at row `64 t + b`: token `t` of text `b`. -/
theorem eTok_apply (z : IVec S64x5 32) (r : Fin 320) :
    Cert.KernelIdeal.Hand.eTok z (ix2 r (0 : Fin 1)) = z (ix2 (⟨r.val % 64, Nat.mod_lt _ (by decide)⟩ : Fin 64) (⟨r.val / 64, by omega⟩ : Fin 5)) := by
  pointwise [Cert.KernelIdeal.Hand.eTok]

end Cert.Join

end
-- ==== Proof.Join.Tokens.lean ====
/-
  The two token LSTMs: the kernel's steps are the reference's steps.
-/
module

public import proofs.«01_k».proof.Proof.Join.Embed

@[expose] public section

set_option maxRecDepth 16384

noncomputable section

namespace Cert.Join

open Idealize.ShloMosaic Cert.KernelIdeal Cert.KernelIdeal.Facts₀ Cert.KernelIdeal.Facts
open Cert.ReferenceIdeal.Hand (tokGates tokSig tokCell tokHid tokStep tokZero tokAt tokRun takeRows)
open Cert.KernelIdeal.Hand (eTok)

/-- The kernel's gates of a token before their activations. -/
def kGates (W : FVec Ideal S8x128 .f32) (U : FVec Ideal S32x128 .f32) (b : FVec Ideal S1x128 .f32)
    (e : FVec Ideal S64x8 .f32) (h : FVec Ideal S64x32 .f32) : FVec Ideal S64x128 .f32 :=
  addf (addf (matmul dot_S64x8_S8x128_S64x128_1_0_0_1_n_n none e W (constant S64x128 .f32 0x00000000#32))
      (matmul dot_S64x32_S32x128_S64x128_1_0_0_1_n_n none h U (constant S64x128 .f32 0x00000000#32)))
    (broadcastTo S64x128 b broadcasts_S1x128_S64x128)

/-- The kernel's next cell of a token. -/
def kCell (g : FVec Ideal S64x128 .f32) (c : FVec Ideal S64x32 .f32) : FVec Ideal S64x32 .f32 :=
  addf (mulf (logistic (extractStridedSlice S64x32 ![0, 32] g slices_S64x128_o0_32_S64x32)) c)
    (mulf (logistic (extractStridedSlice S64x32 ![0, 0] g slices_S64x128_o0_0_S64x32))
      (tanh (extractStridedSlice S64x32 ![0, 64] g slices_S64x128_o0_64_S64x32)))

/-- The kernel's next state of a token. -/
def kHid (g : FVec Ideal S64x128 .f32) (c : FVec Ideal S64x32 .f32) : FVec Ideal S64x32 .f32 :=
  mulf (logistic (extractStridedSlice S64x32 ![0, 96] g slices_S64x128_o0_96_S64x32)) (tanh c)

/-- One step of the kernel's token LSTM. -/
def kStep (W : FVec Ideal S8x128 .f32) (U : FVec Ideal S32x128 .f32) (b : FVec Ideal S1x128 .f32)
    (e : FVec Ideal S64x8 .f32) (s : FVec Ideal S64x32 .f32 × FVec Ideal S64x32 .f32) :
    FVec Ideal S64x32 .f32 × FVec Ideal S64x32 .f32 :=
  (kHid (kGates W U b e s.1) (kCell (kGates W U b e s.1) s.2), kCell (kGates W U b e s.1) s.2)

/-- The kernel's zero state. -/
def kZero : FVec Ideal S64x32 .f32 := broadcast S64x32 (Scalar.ofBits .f32 0x00000000#32 : Ideal .f32)

/-- The kernel's gates are the reference's. -/
theorem kGates_eq (W : FVec Ideal S8x128 .f32) (U : FVec Ideal S32x128 .f32) (b : FVec Ideal S128 .f32)
    (e : FVec Ideal S64x8 .f32) (h : FVec Ideal S64x32 .f32) :
    kGates W U (shapeCast S1x128 (shapeCast S1x128 b shapeCasts_S128_S1x128) shapeCasts_S1x128_S1x128) e h = tokGates W U b e h := by
  funext j
  pointwise [kGates, tokGates]

/-- The kernel's next cell is the reference's. -/
theorem kCell_eq (g : FVec Ideal S64x128 .f32) (c : FVec Ideal S64x32 .f32) : kCell g c = tokCell g c := by
  funext j
  pointwise [kCell, tokCell, tokSig]
  rfl

/-- The kernel's next state is the reference's. -/
theorem kHid_eq (g : FVec Ideal S64x128 .f32) (c : FVec Ideal S64x32 .f32) : kHid g c = tokHid g c := by
  funext j
  pointwise [kHid, tokHid, tokSig]
  rfl

/-- The kernel's zero state is the reference's. -/
theorem kZero_eq : kZero = tokZero := by
  funext j
  pointwise [kZero, tokZero]

/-- The kernel's step is the reference's. -/
theorem kStep_eq (W : FVec Ideal S8x128 .f32) (U : FVec Ideal S32x128 .f32) (b : FVec Ideal S128 .f32)
    (e : FVec Ideal S64x8 .f32) (s : FVec Ideal S64x32 .f32 × FVec Ideal S64x32 .f32) :
    kStep W U (shapeCast S1x128 (shapeCast S1x128 b shapeCasts_S128_S1x128) shapeCasts_S1x128_S1x128) e s = tokStep W U b e s := by
  unfold kStep tokStep
  rw [kGates_eq, kCell_eq, kHid_eq]

/-- The last state of the kernel's token LSTM over five tokens' embeddings. -/
def kRun (W : FVec Ideal S8x128 .f32) (U : FVec Ideal S32x128 .f32) (b : FVec Ideal S1x128 .f32)
    (e0 e1 e2 e3 e4 : FVec Ideal S64x8 .f32) : FVec Ideal S64x32 .f32 :=
  (kStep W U (shapeCast S1x128 b shapeCasts_S1x128_S1x128) e4
    (kStep W U (shapeCast S1x128 b shapeCasts_S1x128_S1x128) e3
      (kStep W U (shapeCast S1x128 b shapeCasts_S1x128_S1x128) e2
        (kStep W U (shapeCast S1x128 b shapeCasts_S1x128_S1x128) e1
          (kStep W U (shapeCast S1x128 b shapeCasts_S1x128_S1x128) e0 (kZero, kZero)))))).1

/-- The kernel's embeddings of one token. -/
def kTok (z : IVec S320x1 32) (emb : FVec Ideal S184x8 .f32) (off : Fin 2 → ℕ) (h : S320x8.Slices off S64x8) : FVec Ideal S64x8 .f32 :=
  extractStridedSlice S64x8 off (Gen.k0_pay1 z emb) h

/-- The forward token LSTM, unfolded into its five steps. -/
theorem tokFwd_eq (z : IVec S320x1 32) (emb : FVec Ideal S184x8 .f32) (W : FVec Ideal S8x128 .f32) (U : FVec Ideal S32x128 .f32)
    (b : FVec Ideal S1x128 .f32) : Hand.tokFwd z emb W U b =
      kRun W U b (kTok z emb ![0, 0] slices_S320x8_o0_0_S64x8) (kTok z emb ![64, 0] slices_S320x8_o64_0_S64x8)
        (kTok z emb ![128, 0] slices_S320x8_o128_0_S64x8) (kTok z emb ![192, 0] slices_S320x8_o192_0_S64x8)
        (kTok z emb ![256, 0] slices_S320x8_o256_0_S64x8) := rfl

/-- The tokens' share of the convolution from the two directions' last states: the states beside each other written along
    the frames through the first tap, the next frame's through the second, and the bias. -/
def kConv (hf hb : FVec Ideal S64x32 .f32) (w0 w1 : FVec Ideal S64x128 .f32) (b : FVec Ideal S1x128 .f32) : FVec Ideal S128x128 .f32 :=
  addf (addf
      (matmul dot_S128x64_S64x128_S128x128_1_0_0_1_n_n none
        (concatenate S128x64 0 [⟨S64x64, concatenate S64x64 1 [⟨S64x32, hf⟩, ⟨S64x32, hb⟩] concatenates_S64x32_S64x32_S64x64_d1⟩,
          ⟨S64x64, concatenate S64x64 1 [⟨S64x32, hf⟩, ⟨S64x32, hb⟩] concatenates_S64x32_S64x32_S64x64_d1⟩] concatenates_S64x64_S64x64_S128x64_d0)
        (shapeCast S64x128 w0 shapeCasts_S64x128_S64x128) (constant S128x128 .f32 0x00000000#32))
      (matmul dot_S128x64_S64x128_S128x128_1_0_0_1_n_n none
        (concatenate S128x64 0 [⟨S127x64, extractStridedSlice S127x64 ![1, 0]
          (concatenate S128x64 0 [⟨S64x64, concatenate S64x64 1 [⟨S64x32, hf⟩, ⟨S64x32, hb⟩] concatenates_S64x32_S64x32_S64x64_d1⟩,
            ⟨S64x64, concatenate S64x64 1 [⟨S64x32, hf⟩, ⟨S64x32, hb⟩] concatenates_S64x32_S64x32_S64x64_d1⟩] concatenates_S64x64_S64x64_S128x64_d0)
          slices_S128x64_o1_0_S127x64⟩, ⟨S1x64, broadcast S1x64 (Scalar.ofBits .f32 0x00000000#32 : Ideal .f32)⟩]
          concatenates_S127x64_S1x64_S128x64_d0)
        (shapeCast S64x128 w1 shapeCasts_S64x128_S64x128) (constant S128x128 .f32 0x00000000#32)))
    (broadcastTo S128x128 (shapeCast S1x128 b shapeCasts_S1x128_S1x128) broadcasts_S1x128_S128x128)

/-- The tokens' share of the convolution, its backward LSTM unfolded into its five steps. -/
theorem tokConv_eq (z : IVec S320x1 32) (emb : FVec Ideal S184x8 .f32) (Wf : FVec Ideal S8x128 .f32) (Uf : FVec Ideal S32x128 .f32)
    (bf : FVec Ideal S1x128 .f32) (Wb : FVec Ideal S8x128 .f32) (Ub : FVec Ideal S32x128 .f32) (bb : FVec Ideal S1x128 .f32)
    (w0 w1 : FVec Ideal S64x128 .f32) (b : FVec Ideal S1x128 .f32) :
    Hand.tokConv z emb Wf Uf bf Wb Ub bb w0 w1 b = kConv (Hand.tokFwd z emb Wf Uf bf)
      (kRun Wb Ub bb (kTok z emb ![256, 0] slices_S320x8_o256_0_S64x8) (kTok z emb ![192, 0] slices_S320x8_o192_0_S64x8)
        (kTok z emb ![128, 0] slices_S320x8_o128_0_S64x8) (kTok z emb ![64, 0] slices_S320x8_o64_0_S64x8)
        (kTok z emb ![0, 0] slices_S320x8_o0_0_S64x8)) w0 w1 b := rfl

/-- The kernel's embedding of token `t` of line `b` is the reference's. -/
theorem tok_apply (z : IVec S64x5 32) (emb : FVec Ideal S184x8 .f32)
    (hz : ∀ (b : Fin 64) (t : Fin 5), 0 ≤ (z (ix2 b t)).toInt ∧ (z (ix2 b t)).toInt < 184) (b : Fin 64) (t : Fin 5) (k : Fin 8)
    (r : Fin 320) (hr : r.val = 64 * t.val + b.val) :
    Gen.k0_pay1 (eTok z) emb (ix2 r k) = takeRows emb z (ix3 b t k) := by
  have e : eTok z (ix2 r (0 : Fin 1)) = z (ix2 b t) := by
    rw [eTok_apply]
    congr 2
    · exact Fin.ext (show r.val % 64 = b.val by omega)
    · exact Fin.ext (show r.val / 64 = t.val by omega)
  rw [oneHot_apply _ _ _ _ (by rw [e]; exact (hz b t).1) (by rw [e]; exact (hz b t).2), takeRows_apply _ _ _ _ _ (hz b t).1 (hz b t).2]
  simp only [e]

/-- The kernel's embeddings of token `t` are the reference's. -/
theorem kTok_eq (z : IVec S64x5 32) (emb : FVec Ideal S184x8 .f32)
    (hz : ∀ (b : Fin 64) (t : Fin 5), 0 ≤ (z (ix2 b t)).toInt ∧ (z (ix2 b t)).toInt < 184) (t : Fin 5)
    (h : S320x8.Slices ![64 * t.val, 0] S64x8) (h' : Cert.ReferenceIdeal.S64x5x8.Slices ![0, t.val, 0] Cert.ReferenceIdeal.S64x1x8) :
    kTok (eTok z) emb ![64 * t.val, 0] h = tokAt (takeRows emb z) ![0, t.val, 0] h' := by
  funext j
  pointwise [kTok, tokAt]
  exact tok_apply z emb hz _ _ _ _ rfl

/-- The kernel's embeddings of token `4 - t` are the reference's of token `t` of the reversed text. -/
theorem kTok_rev (z : IVec S64x5 32) (emb : FVec Ideal S184x8 .f32)
    (hz : ∀ (b : Fin 64) (t : Fin 5), 0 ≤ (z (ix2 b t)).toInt ∧ (z (ix2 b t)).toInt < 184) (t : Fin 5)
    (h : S320x8.Slices ![64 * (4 - t.val), 0] S64x8) (h' : Cert.ReferenceIdeal.S64x5x8.Slices ![0, t.val, 0] Cert.ReferenceIdeal.S64x1x8) :
    kTok (eTok z) emb ![64 * (4 - t.val), 0] h = tokAt (Host.reverse [1] (takeRows emb z)) ![0, t.val, 0] h' := by
  funext j
  pointwise [kTok, tokAt]
  refine tok_apply z emb hz _ _ _ _ ?_
  have := t.isLt
  show 64 * (4 - t.val) + (j 0).val = 64 * (5 - (t.val + 1)) + (j 0).val
  omega

/-- The forward token LSTM's last state is the reference's. -/
theorem tokFwd_ref (z : IVec S64x5 32) (emb : FVec Ideal S184x8 .f32) (W : FVec Ideal S8x128 .f32) (U : FVec Ideal S32x128 .f32)
    (b : FVec Ideal S128 .f32) (hz : ∀ (b : Fin 64) (t : Fin 5), 0 ≤ (z (ix2 b t)).toInt ∧ (z (ix2 b t)).toInt < 184) :
    Hand.tokFwd (eTok z) emb W U (shapeCast S1x128 b shapeCasts_S128_S1x128) = tokRun W U b (takeRows emb z) := by
  rw [tokFwd_eq]
  unfold kRun tokRun
  simp only [kStep_eq, kZero_eq]
  rw [(show kTok (eTok z) emb ![0, 0] _ = tokAt (takeRows emb z) ![0, 0, 0] _ from kTok_eq z emb hz 0 slices_S320x8_o0_0_S64x8 Cert.ReferenceIdeal.Facts₀.slices_S64x5x8_S64x1x8_0_0_0),
    (show kTok (eTok z) emb ![64, 0] _ = tokAt (takeRows emb z) ![0, 1, 0] _ from kTok_eq z emb hz 1 slices_S320x8_o64_0_S64x8 Cert.ReferenceIdeal.Facts₀.slices_S64x5x8_S64x1x8_0_1_0),
    (show kTok (eTok z) emb ![128, 0] _ = tokAt (takeRows emb z) ![0, 2, 0] _ from kTok_eq z emb hz 2 slices_S320x8_o128_0_S64x8 Cert.ReferenceIdeal.Facts₀.slices_S64x5x8_S64x1x8_0_2_0),
    (show kTok (eTok z) emb ![192, 0] _ = tokAt (takeRows emb z) ![0, 3, 0] _ from kTok_eq z emb hz 3 slices_S320x8_o192_0_S64x8 Cert.ReferenceIdeal.Facts₀.slices_S64x5x8_S64x1x8_0_3_0),
    (show kTok (eTok z) emb ![256, 0] _ = tokAt (takeRows emb z) ![0, 4, 0] _ from kTok_eq z emb hz 4 slices_S320x8_o256_0_S64x8 Cert.ReferenceIdeal.Facts₀.slices_S64x5x8_S64x1x8_0_4_0)]

/-- The tokens' share of the convolution, of the reference's two token LSTMs. -/
theorem tokConv_ref (z : IVec S64x5 32) (emb : FVec Ideal S184x8 .f32) (Wf : FVec Ideal S8x128 .f32) (Uf : FVec Ideal S32x128 .f32)
    (bf : FVec Ideal S128 .f32) (Wb : FVec Ideal S8x128 .f32) (Ub : FVec Ideal S32x128 .f32) (bb : FVec Ideal S128 .f32)
    (w0 w1 : FVec Ideal S64x128 .f32) (b : FVec Ideal S1x128 .f32)
    (hz : ∀ (b : Fin 64) (t : Fin 5), 0 ≤ (z (ix2 b t)).toInt ∧ (z (ix2 b t)).toInt < 184) :
    Hand.tokConv (eTok z) emb Wf Uf (shapeCast S1x128 bf shapeCasts_S128_S1x128) Wb Ub (shapeCast S1x128 bb shapeCasts_S128_S1x128) w0 w1 b
      = kConv (tokRun Wf Uf bf (takeRows emb z)) (tokRun Wb Ub bb (Host.reverse [1] (takeRows emb z))) w0 w1 b := by
  rw [tokConv_eq, tokFwd_ref z emb Wf Uf bf hz]
  refine congrArg (fun h => kConv _ h w0 w1 b) ?_
  unfold kRun tokRun
  simp only [kStep_eq, kZero_eq]
  rw [(show kTok (eTok z) emb ![256, 0] _ = tokAt (Host.reverse [1] (takeRows emb z)) ![0, 0, 0] _ from kTok_rev z emb hz 0 slices_S320x8_o256_0_S64x8 Cert.ReferenceIdeal.Facts₀.slices_S64x5x8_S64x1x8_0_0_0),
    (show kTok (eTok z) emb ![192, 0] _ = tokAt (Host.reverse [1] (takeRows emb z)) ![0, 1, 0] _ from kTok_rev z emb hz 1 slices_S320x8_o192_0_S64x8 Cert.ReferenceIdeal.Facts₀.slices_S64x5x8_S64x1x8_0_1_0),
    (show kTok (eTok z) emb ![128, 0] _ = tokAt (Host.reverse [1] (takeRows emb z)) ![0, 2, 0] _ from kTok_rev z emb hz 2 slices_S320x8_o128_0_S64x8 Cert.ReferenceIdeal.Facts₀.slices_S64x5x8_S64x1x8_0_2_0),
    (show kTok (eTok z) emb ![64, 0] _ = tokAt (Host.reverse [1] (takeRows emb z)) ![0, 3, 0] _ from kTok_rev z emb hz 3 slices_S320x8_o64_0_S64x8 Cert.ReferenceIdeal.Facts₀.slices_S64x5x8_S64x1x8_0_3_0),
    (show kTok (eTok z) emb ![0, 0] _ = tokAt (Host.reverse [1] (takeRows emb z)) ![0, 4, 0] _ from kTok_rev z emb hz 4 slices_S320x8_o0_0_S64x8 Cert.ReferenceIdeal.Facts₀.slices_S64x5x8_S64x1x8_0_4_0)]

end Cert.Join

end
-- ==== Proof.Ref.Result.lean ====
/-
  The reference's result as a tensor of its arguments: the frames' inputs, then the frames' LSTM one frame at a time.
-/
module

public import proofs.«01_k».proof.Proof.Ref.Frames

@[expose] public section

set_option maxRecDepth 16384

noncomputable section

namespace Cert.ReferenceIdeal.Hand

open Idealize.ShloMosaic Idealize.ShloMosaic.StableHlo Cert.ReferenceIdeal Cert.ReferenceIdeal.Value
open Cert.ReferenceIdeal.Facts₀ Cert.ReferenceIdeal.Facts

/-- The convolved frames of the arguments. -/
def refConv (x : FVec Ideal S64x128x192 .f32) (z : IVec S64x5 32) (emb : FVec Ideal S184x8 .f32) (Wf : FVec Ideal S8x128 .f32)
    (Uf : FVec Ideal S32x128 .f32) (bf : FVec Ideal S128 .f32) (Wb : FVec Ideal S8x128 .f32) (Ub : FVec Ideal S32x128 .f32)
    (bb : FVec Ideal S128 .f32) (Wc : FVec Ideal S2x256x128 .f32) (bc : FVec Ideal S128 .f32) : FVec Ideal S64x128x128 .f32 :=
  reluFrames (convFrames (padFrames (catFrames x (tokRun Wf Uf bf (takeRows emb z))
    (tokRun Wb Ub bb (Host.reverse [1] (takeRows emb z)))) (constantI S_ 32 0#32)) Wc bc)

/-- The frames' LSTM's inputs of the convolved frames. -/
def refRows (y : FVec Ideal S64x128x128 .f32) (Wd : FVec Ideal S128x1024 .f32) (bd gamma beta : FVec Ideal S1024 .f32) :
    FVec Ideal S128x64x1024 .f32 :=
  normFrames (denseFrames y Wd bd) (meanFrames (denseFrames y Wd bd)) (varFrames (denseFrames y Wd bd) (constantI S_ 32 0#32)) gamma beta

/-- A frame's four gates before their activations. -/
def lstmGates (rows : FVec Ideal S128x64x1024 .f32) (Wl : FVec Ideal S1024x40 .f32) (Ul : FVec Ideal S10x40 .f32)
    (bl : FVec Ideal S40 .f32) (t : IVec S_ 32) (h : FVec Ideal S64x10 .f32) : FVec Ideal S64x40 .f32 :=
  addf (addf (Host.dotGeneral dot_S64x1024_S1024x40_S64x40_1_0_0_1_n_n none (shapeCast S64x1024 (Host.dynamicSlice S1x64x1024 rows
        (fun k => ((![t, constantI S_ 32 0#32, constantI S_ 32 0#32] : Fin 3 → IVec S_ 32) k (Shape.Idx.first h_S_)).toInt)
        sliceFits_S128x64x1024_S1x64x1024) shapeCasts_S1x64x1024_S64x1024) Wl)
      (Host.dotGeneral dot_S64x10_S10x40_S64x40_1_0_0_1_n_n none h Ul))
    (broadcastInDim S64x40 ![0, 1] bcast_S1x40_S64x40_0_1 (broadcastInDim S1x40 ![1] bcast_S40_S1x40_1 bl))

/-- The logistic function as the reference spells it, `1 / (1 + exp (-v))`. -/
def lstmSig (v : FVec Ideal S64x10 .f32) : FVec Ideal S64x10 .f32 :=
  Host.divf (broadcastInDim S64x10 ![] bcast_S_S64x10 (constant S_ .f32 0x3F800000#32))
    (addf (broadcastInDim S64x10 ![] bcast_S_S64x10 (constant S_ .f32 0x3F800000#32)) (Host.exp (Host.negf v)))

/-- The next cell of the gates `g` and the cell `c`. -/
def lstmCell (g : FVec Ideal S64x40 .f32) (c : FVec Ideal S64x10 .f32) : FVec Ideal S64x10 .f32 :=
  addf (mulf (lstmSig (extractStridedSlice S64x10 ![0, 10] g slices_S64x40_S64x10_0_10)) c)
    (mulf (lstmSig (extractStridedSlice S64x10 ![0, 0] g slices_S64x40_S64x10_0_0))
      (Host.tanh (extractStridedSlice S64x10 ![0, 20] g slices_S64x40_S64x10_0_20)))

/-- The next state of the gates `g` and the next cell `c`. -/
def lstmHid (g : FVec Ideal S64x40 .f32) (c : FVec Ideal S64x10 .f32) : FVec Ideal S64x10 .f32 :=
  mulf (lstmSig (extractStridedSlice S64x10 ![0, 30] g slices_S64x40_S64x10_0_30)) (Host.tanh c)

/-- The zero state. -/
def lstmZero : FVec Ideal S64x10 .f32 := broadcastInDim S64x10 ![] bcast_S_S64x10 (constant S_ .f32 0x00000000#32)

/-- The frame number the loop counts. -/
def frameNo : ℕ → IVec S_ 32
  | 0 => constantI S_ 32 0#32
  | k + 1 => addi (frameNo k) (constantI S_ 32 1#32)

/-- The state and the cell before frame `k`. -/
def lstmState (rows : FVec Ideal S128x64x1024 .f32) (Wl : FVec Ideal S1024x40 .f32) (Ul : FVec Ideal S10x40 .f32)
    (bl : FVec Ideal S40 .f32) : ℕ → FVec Ideal S64x10 .f32 × FVec Ideal S64x10 .f32
  | 0 => (lstmZero, lstmZero)
  | k + 1 =>
    (lstmHid (lstmGates rows Wl Ul bl (frameNo k) (lstmState rows Wl Ul bl k).1)
        (lstmCell (lstmGates rows Wl Ul bl (frameNo k) (lstmState rows Wl Ul bl k).1) (lstmState rows Wl Ul bl k).2),
      lstmCell (lstmGates rows Wl Ul bl (frameNo k) (lstmState rows Wl Ul bl k).1) (lstmState rows Wl Ul bl k).2)

/-- What the last stretch leaves in the loop's other carried buffers: the weights, frame number zero, the zero state. -/
theorem after_init (V : Valuation τ sig (Elt Ideal)) :
    after Gen.hostOps0_7 V (Proc.devRef .tc main_v411_1) = V (Proc.devRef .tc main_arg16)
      ∧ after Gen.hostOps0_7 V (Proc.devRef .tc main_v411_2) = V (Proc.devRef .tc main_arg17)
      ∧ after Gen.hostOps0_7 V (Proc.devRef .tc main_v411_3) = V (Proc.devRef .tc main_arg18)
      ∧ after Gen.hostOps0_7 V (Proc.devRef .tc main_v411_4) = constantI S_ 32 0#32
      ∧ after Gen.hostOps0_7 V (Proc.devRef .tc main_v411_5) = lstmZero
      ∧ after Gen.hostOps0_7 V (Proc.devRef .tc main_v411_6) = lstmZero := by
  refine ⟨?_, ?_, ?_, ?_, ?_, ?_⟩ <;> after_reads_simp <;> rfl

/-- What the loop's carried buffers hold: the inputs and weights throughout, the frame number, the state and the cell. -/
structure Carries (X : Valuation τ sig (Elt Ideal)) (rows : FVec Ideal S128x64x1024 .f32) (Wl : FVec Ideal S1024x40 .f32)
    (Ul : FVec Ideal S10x40 .f32) (bl : FVec Ideal S40 .f32) (k : ℕ) : Prop where
  h0 : X (Proc.devRef .tc main_v411_0) = rows
  h1 : X (Proc.devRef .tc main_v411_1) = Wl
  h2 : X (Proc.devRef .tc main_v411_2) = Ul
  h3 : X (Proc.devRef .tc main_v411_3) = bl
  h4 : X (Proc.devRef .tc main_v411_4) = frameNo k
  h5 : X (Proc.devRef .tc main_v411_5) = (lstmState rows Wl Ul bl k).1
  h6 : X (Proc.devRef .tc main_v411_6) = (lstmState rows Wl Ul bl k).2

/-- One trip carries the loop's buffers from one frame to the next. -/
theorem Carries.step {X : Valuation τ sig (Elt Ideal)} {rows : FVec Ideal S128x64x1024 .f32} {Wl : FVec Ideal S1024x40 .f32}
    {Ul : FVec Ideal S10x40 .f32} {bl : FVec Ideal S40 .f32} {k : ℕ} (h : Carries X rows Wl Ul bl k) :
    Carries (STEP X) rows Wl Ul bl (k + 1) := by
  have hg : res_main_while0b_v418 X = lstmGates rows Wl Ul bl (frameNo k) (lstmState rows Wl Ul bl k).1 := by
    unfold res_main_while0b_v418
    rw [h.h0, h.h1, h.h2, h.h3, h.h4, h.h5]
    rfl
  have hc : res_main_while0b_v438 X = (lstmState rows Wl Ul bl (k + 1)).2 := by
    unfold res_main_while0b_v438
    rw [hg, h.h6]
    rfl
  refine ⟨?_, ?_, ?_, ?_, ?_, ?_, ?_⟩
  · rw [STEP_main_v411_0, h.h0]
  · rw [STEP_main_v411_1, h.h1]
  · rw [STEP_main_v411_2, h.h2]
  · rw [STEP_main_v411_3, h.h3]
  · rw [STEP_main_v411_4]
    unfold step_main_v411_4
    rw [h.h4]
    rfl
  · rw [STEP_main_v411_5]
    unfold step_main_v411_5
    rw [hg, hc]
    rfl
  · rw [STEP_main_v411_6]
    unfold step_main_v411_6
    rw [hc]
    rfl

/-- The loop's carried buffers before frame `k`. -/
theorem Carries.iterate {X : Valuation τ sig (Elt Ideal)} {rows : FVec Ideal S128x64x1024 .f32} {Wl : FVec Ideal S1024x40 .f32}
    {Ul : FVec Ideal S10x40 .f32} {bl : FVec Ideal S40 .f32} (h : Carries X rows Wl Ul bl 0) (k : ℕ) :
    Carries (STEP^[k] X) rows Wl Ul bl k := by
  induction k with
  | zero => exact h
  | succ k ih => rw [Function.iterate_succ_apply']; exact ih.step

/-- The reference's result of the arguments. -/
def refOut (x : FVec Ideal S64x128x192 .f32) (z : IVec S64x5 32) (emb : FVec Ideal S184x8 .f32) (Wf : FVec Ideal S8x128 .f32)
    (Uf : FVec Ideal S32x128 .f32) (bf : FVec Ideal S128 .f32) (Wb : FVec Ideal S8x128 .f32) (Ub : FVec Ideal S32x128 .f32)
    (bb : FVec Ideal S128 .f32) (Wc : FVec Ideal S2x256x128 .f32) (bc : FVec Ideal S128 .f32) (Wd : FVec Ideal S128x1024 .f32)
    (bd gamma beta : FVec Ideal S1024 .f32) (Wl : FVec Ideal S1024x40 .f32) (Ul : FVec Ideal S10x40 .f32)
    (bl : FVec Ideal S40 .f32) : FVec Ideal S64x10 .f32 :=
  (lstmState (refRows (refConv x z emb Wf Uf bf Wb Ub bb Wc bc) Wd bd gamma beta) Wl Ul bl 128).1

variable (m : (l : Loc nD τ sig) → Buf (Elt Ideal) l)

/-- The loop starts from the frames' inputs, the weights, frame number zero and the zero state. -/
theorem carries_entry (c : Dev nD) : Carries (entryContents preI m c)
    (refRows (refConv (m ((c.tc : Thread nD τ).loc main_arg0)) (m ((c.tc : Thread nD τ).loc main_arg1)) (m ((c.tc : Thread nD τ).loc main_arg3))
      (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9))
      (m ((c.tc : Thread nD τ).loc main_arg10)) (m ((c.tc : Thread nD τ).loc main_arg11)))
      (m ((c.tc : Thread nD τ).loc main_arg12)) (m ((c.tc : Thread nD τ).loc main_arg13)) (m ((c.tc : Thread nD τ).loc main_arg14))
      (m ((c.tc : Thread nD τ).loc main_arg15)))
    (m ((c.tc : Thread nD τ).loc main_arg16)) (m ((c.tc : Thread nD τ).loc main_arg17)) (m ((c.tc : Thread nD τ).loc main_arg18)) 0 := by
  have hi := after_init (after Gen.hostOps0_6 (after Gen.hostOps0_5 (after Gen.hostOps0_4 (after Gen.hostOps0_3 (after Gen.hostOps0_2
    (after Gen.hostOps0_1 (after Gen.hostOps0 (fun b => m (c, b)))))))))
  have hpad : ∀ V : Valuation τ sig (Elt Ideal), after Gen.hostOps0_6 V (Proc.devRef .tc main_v389) = V (Proc.devRef .tc main_v389)
      ∧ after Gen.hostOps0_6 V (Proc.devRef .tc main_v393) = V (Proc.devRef .tc main_v393) := fun V => by
    refine ⟨?_, ?_⟩ <;> after_reads_simp
  constructor
  · simp only [entryContents, afterL_cons, afterL_nil]
    rw [after_norm, (hpad _).1, (hpad _).2, after_var, after_dense, after_mean, after_ddof, after_relu, after_conv, after_pad,
      after_cat, after_cat_c, after_take]
    simp only [keep_main_arg0_hostOps0, keep_main_arg4_hostOps0, keep_main_arg5_hostOps0, keep_main_arg6_hostOps0,
      keep_main_arg7_hostOps0, keep_main_arg8_hostOps0, keep_main_arg9_hostOps0, keep_main_arg10_hostOps0, keep_main_arg10_hostOps0_1,
      keep_main_arg10_hostOps0_2, keep_main_arg11_hostOps0, keep_main_arg11_hostOps0_1, keep_main_arg11_hostOps0_2,
      keep_main_arg12_hostOps0, keep_main_arg12_hostOps0_1, keep_main_arg12_hostOps0_2, keep_main_arg12_hostOps0_3, keep_main_arg12_hostOps0_4,
      keep_main_arg13_hostOps0, keep_main_arg13_hostOps0_1, keep_main_arg13_hostOps0_2, keep_main_arg13_hostOps0_3, keep_main_arg13_hostOps0_4,
      keep_main_arg14_hostOps0, keep_main_arg14_hostOps0_1, keep_main_arg14_hostOps0_2, keep_main_arg14_hostOps0_3, keep_main_arg14_hostOps0_4,
      keep_main_arg14_hostOps0_5, keep_main_arg14_hostOps0_6,
      keep_main_arg15_hostOps0, keep_main_arg15_hostOps0_1, keep_main_arg15_hostOps0_2, keep_main_arg15_hostOps0_3, keep_main_arg15_hostOps0_4,
      keep_main_arg15_hostOps0_5, keep_main_arg15_hostOps0_6]
    rfl
  · simp only [entryContents, afterL_cons, afterL_nil]
    rw [hi.1, keep_main_arg16_hostOps0_6, keep_main_arg16_hostOps0_5, keep_main_arg16_hostOps0_4, keep_main_arg16_hostOps0_3,
      keep_main_arg16_hostOps0_2, keep_main_arg16_hostOps0_1, keep_main_arg16_hostOps0]
  · simp only [entryContents, afterL_cons, afterL_nil]
    rw [hi.2.1, keep_main_arg17_hostOps0_6, keep_main_arg17_hostOps0_5, keep_main_arg17_hostOps0_4, keep_main_arg17_hostOps0_3,
      keep_main_arg17_hostOps0_2, keep_main_arg17_hostOps0_1, keep_main_arg17_hostOps0]
  · simp only [entryContents, afterL_cons, afterL_nil]
    rw [hi.2.2.1, keep_main_arg18_hostOps0_6, keep_main_arg18_hostOps0_5, keep_main_arg18_hostOps0_4, keep_main_arg18_hostOps0_3,
      keep_main_arg18_hostOps0_2, keep_main_arg18_hostOps0_1, keep_main_arg18_hostOps0]
  · simp only [entryContents, afterL_cons, afterL_nil]
    exact hi.2.2.2.1
  · simp only [entryContents, afterL_cons, afterL_nil]
    exact hi.2.2.2.2.1
  · simp only [entryContents, afterL_cons, afterL_nil]
    exact hi.2.2.2.2.2

end Cert.ReferenceIdeal.Hand

end
-- ==== Proof.Join.Conv.lean ====
/-
  The convolution: the kernel's rows are the reference's.
-/
module

public import proofs.«01_k».proof.Proof.Join.Tokens
public import proofs.«01_k».proof.Proof.Ref.Result
public import proofs.«01_k».proof.Proof.Ideal.Entry

@[expose] public section

set_option maxRecDepth 16384

noncomputable section

namespace Cert.Join

open Idealize.ShloMosaic Cert.KernelIdeal Cert.KernelIdeal.Facts₀ Cert.KernelIdeal.Facts
open Cert.ReferenceIdeal.Hand (tokRun takeRows catFrames padFrames convFrames reluFrames refConv)
open Cert.KernelIdeal.Hand (eTok eWx0 eWx1 eWz0 eWz1)

/-- The frame's number within its line, as the kernel computes it from the row's number, is the line's last one exactly when
    the remainder by the line's length is. -/
theorem lastFrame_word (n : ℕ) (hn : n < 8192) :
    IntOp.cmpi CmpIPredicate.eq
      (Scalar.select
        (IntOp.andi
          (IntOp.xori (IntOp.cmpi CmpIPredicate.slt (IntOp.remsi ArithUnit.vector (BitVec.ofNat 32 n) 128#32) 0#32) 0#1)
          (IntOp.cmpi CmpIPredicate.ne (IntOp.remsi ArithUnit.vector (BitVec.ofNat 32 n) 128#32) 0#32))
        (IntOp.addi (IntOp.remsi ArithUnit.vector (BitVec.ofNat 32 n) 128#32) 128#32)
        (IntOp.remsi ArithUnit.vector (BitVec.ofNat 32 n) 128#32))
      127#32 = if n % 128 = 127 then 1#1 else 0#1 := by
  have hw : (IntOp.remsi ArithUnit.vector (BitVec.ofNat 32 n) 128#32).toNat = n % 128 := by
    have e : (BitVec.ofNat 32 n).toNat = n := by rw [BitVec.toNat_ofNat]; exact Nat.mod_eq_of_lt (by omega)
    have h := IntOp.toNat_remsi ArithUnit.vector (x := BitVec.ofNat 32 n) (by omega) 128 (by omega) (by omega)
    rw [e] at h
    exact h
  generalize IntOp.remsi ArithUnit.vector (BitVec.ofNat 32 n) 128#32 = w at hw ⊢
  have hlt : w.toNat < 128 := by omega
  have hs : IntOp.cmpi CmpIPredicate.slt w 0#32 = 0#1 := by
    show BitVec.ofBool (decide (w.toInt < 0)) = _
    rw [decide_eq_false (by have := BitVec.toInt_eq_toNat_cond w; split at this <;> omega)]
    rfl
  have ha : ∀ v : BitVec 1, IntOp.andi (IntOp.xori 0#1 0#1) v = 0#1 := by decide
  rw [hs, ha, ValueIdx.select_zero]
  by_cases h : n % 128 = 127
  · rw [if_pos h]
    exact IntOp.cmpi_eq.mpr (BitVec.eq_of_toNat_eq (by rw [hw, h]; rfl))
  · rw [if_neg h]
    refine ValueIdx.eq_zero_of_ne_one fun h' => h ?_
    rw [← hw, IntOp.cmpi_eq.mp h']
    rfl

/-- The features of a frame: its own, and the two states written along the frames. -/
theorem cat_apply (x : FVec Ideal S64x128x192 .f32) (hf hb : FVec Ideal S64x32 .f32) (b : Fin 64) (t : Fin 128) (k : Fin 256) :
    catFrames x hf hb (ix3 b t k) = if h : k.val < 192 then x (ix3 b t ⟨k.val, h⟩) else
      if h' : k.val - 192 < 32 then hf (ix2 (⟨t.val % 64, by omega⟩ : Fin 64) ⟨k.val - 192, h'⟩)
      else hb (ix2 (⟨t.val % 64, by omega⟩ : Fin 64) ⟨k.val - 192 - 32, by omega⟩) := by
  pointwise [catFrames]

/-- One tap over a frame's features: the frame's own share and the two states'. -/
def tapSum (x : FVec Ideal S64x128x192 .f32) (hf hb : FVec Ideal S64x32 .f32) (Wc : FVec Ideal S2x256x128 .f32) (p : Fin 2)
    (b : Fin 64) (t : Fin 128) (j : Fin 128) : EReal :=
  (∑ k : Fin 192, x (ix3 b t k) * Wc (ix3 p (⟨k.val, by omega⟩ : Fin 256) j) : EReal)
    + ((∑ k : Fin 32, hf (ix2 (⟨t.val % 64, by omega⟩ : Fin 64) k) * Wc (ix3 p (⟨192 + k.val, by omega⟩ : Fin 256) j) : EReal)
      + (∑ k : Fin 32, hb (ix2 (⟨t.val % 64, by omega⟩ : Fin 64) k) * Wc (ix3 p (⟨192 + (32 + k.val), by omega⟩ : Fin 256) j) : EReal))

/-- A sum over the features is the sum over the frame's own and over the two states'. -/
theorem sum_features (f : Fin 256 → EReal) :
    (∑ k, f k) = (∑ k : Fin 192, f ⟨k.val, by omega⟩) + ((∑ k : Fin 32, f ⟨192 + k.val, by omega⟩) + ∑ k : Fin 32, f ⟨192 + (32 + k.val), by omega⟩) := by
  have h1 := Fin.sum_univ_add (a := 192) (b := 64) f
  have h2 := Fin.sum_univ_add (a := 32) (b := 32) fun k : Fin (32 + 32) => f (Fin.natAdd 192 k)
  rw [h1]
  exact congrArg _ h2

/-- One tap of the reference over a frame's features. -/
theorem tap_ref (x : FVec Ideal S64x128x192 .f32) (hf hb : FVec Ideal S64x32 .f32) (Wc : FVec Ideal S2x256x128 .f32) (p : Fin 2)
    (b : Fin 64) (t : Fin 128) (j : Fin 128) :
    (∑ k : Fin 256, catFrames x hf hb (ix3 b t k) * Wc (ix3 p k j) : EReal) = tapSum x hf hb Wc p b t j := by
  rw [sum_features]
  unfold tapSum
  refine congrArg₂ _ (Finset.sum_congr rfl fun k _ => ?_) (congrArg₂ _ (Finset.sum_congr rfl fun k _ => ?_) (Finset.sum_congr rfl fun k _ => ?_))
  · rw [cat_apply, dif_pos (show k.val < 192 from k.isLt)]
  · rw [cat_apply, dif_neg (show ¬ 192 + k.val < 192 by omega), dif_pos (show 192 + k.val - 192 < 32 by omega)]
    simp only [Nat.add_sub_cancel_left]
  · rw [cat_apply, dif_neg (show ¬ 192 + (32 + k.val) < 192 by omega), dif_neg (show ¬ 192 + (32 + k.val) - 192 < 32 by omega)]
    simp only [Nat.add_sub_cancel_left]

/-- The padding's value is zero. -/
theorem pad_zero : (FloatOps.sitofp FTy.f32 (0#32 : BitVec 32) : Ideal .f32) = (0 : EReal) := by
  show (((0#32 : BitVec 32).toInt : ℝ) : EReal) = 0
  simp

/-- The convolution's value at a frame, as both programs compute it up to the order of the terms. -/
def convVal (x : FVec Ideal S64x128x192 .f32) (hf hb : FVec Ideal S64x32 .f32) (Wc : FVec Ideal S2x256x128 .f32) (bc : FVec Ideal S128 .f32)
    (b : Fin 64) (t : Fin 128) (j : Fin 128) : EReal :=
  max (tapSum x hf hb Wc 0 b t j + (if h : t.val < 127 then tapSum x hf hb Wc 1 b ⟨1 + t.val, by omega⟩ j else 0) + bc (ix1 j)) 0

/-- The reference's convolution at a frame. -/
theorem conv_ref (x : FVec Ideal S64x128x192 .f32) (hf hb : FVec Ideal S64x32 .f32) (Wc : FVec Ideal S2x256x128 .f32) (bc : FVec Ideal S128 .f32)
    (b : Fin 64) (t : Fin 128) (j : Fin 128) :
    reluFrames (convFrames (padFrames (catFrames x hf hb) (constantI Cert.ReferenceIdeal.S_ 32 0#32)) Wc bc) (ix3 b t j)
      = convVal x hf hb Wc bc b t j := by
  have hp : ∀ (t' : Fin 129) (k : Fin 256), padFrames (catFrames x hf hb) (constantI Cert.ReferenceIdeal.S_ 32 0#32) (ix3 b t' k)
      = if h : t'.val < 128 then catFrames x hf hb (ix3 b ⟨t'.val, h⟩ k) else (0 : EReal) := fun t' k => by
    pointwise [padFrames]
    rw [pad_zero]
  pointwise [reluFrames, convFrames]
  unfold convVal
  refine congrArg (fun a => max (a + bc (ix1 j)) 0) (congrArg₂ _ ?_ ?_)
  · rw [← tap_ref]
    refine Finset.sum_congr rfl fun k _ => ?_
    rw [hp, dif_pos (show t.val < 128 from t.isLt)]
  · by_cases h : t.val < 127
    · rw [dif_pos h, ← tap_ref]
      refine Finset.sum_congr rfl fun k _ => ?_
      rw [hp, dif_pos (show 1 + t.val < 128 by omega)]
    · rw [dif_neg h]
      refine Finset.sum_eq_zero fun k _ => ?_
      rw [hp, dif_neg (show ¬ 1 + t.val < 128 by omega), zero_mul]

/-- The tokens' share of the convolution at a frame. -/
theorem kConv_apply (hf hb : FVec Ideal S64x32 .f32) (Wc : FVec Ideal S2x256x128 .f32) (bc : FVec Ideal S128 .f32) (t : Fin 128) (j : Fin 128) :
    kConv hf hb (eWz0 Wc) (eWz1 Wc) (shapeCast S1x128 bc shapeCasts_S128_S1x128) (ix2 t j)
      = ((∑ k : Fin 32, hf (ix2 (⟨t.val % 64, by omega⟩ : Fin 64) k) * Wc (ix3 0 (⟨192 + k.val, by omega⟩ : Fin 256) j) : EReal)
          + (∑ k : Fin 32, hb (ix2 (⟨t.val % 64, by omega⟩ : Fin 64) k) * Wc (ix3 0 (⟨192 + (32 + k.val), by omega⟩ : Fin 256) j) : EReal))
        + (if t.val < 127 then
            ((∑ k : Fin 32, hf (ix2 (⟨(1 + t.val) % 64, by omega⟩ : Fin 64) k) * Wc (ix3 1 (⟨192 + k.val, by omega⟩ : Fin 256) j) : EReal)
              + (∑ k : Fin 32, hb (ix2 (⟨(1 + t.val) % 64, by omega⟩ : Fin 64) k) * Wc (ix3 1 (⟨192 + (32 + k.val), by omega⟩ : Fin 256) j) : EReal))
          else 0)
        + bc (ix1 j) := by
  have hrow : ∀ (h : FVec Ideal S64x32 .f32) (n : ℕ) (hn : n < 128) (k : Fin 32),
      (if h' : n < 64 then h (ix2 ⟨n, h'⟩ k) else h (ix2 ⟨n - 64, by omega⟩ k)) = h (ix2 (⟨n % 64, by omega⟩ : Fin 64) k) := by
    intro h n hn k
    split
    · congr 2; exact Fin.ext (show n = n % 64 by omega)
    · congr 2; exact Fin.ext (show n - 64 = n % 64 by omega)
  pointwise [kConv, eWz0, eWz1]
  refine congrArg (· + bc (ix1 j)) (congrArg₂ _ ?_ ?_)
  · refine congrArg₂ _ (Finset.sum_congr rfl fun k _ => ?_) (Finset.sum_congr rfl fun k _ => ?_) <;>
      rw [hrow _ t.val t.isLt]
  · by_cases h : t.val < 127
    · simp only [dif_pos h, if_pos h]
      refine congrArg₂ _ (Finset.sum_congr rfl fun k _ => ?_) (Finset.sum_congr rfl fun k _ => ?_) <;>
        rw [hrow _ (1 + t.val) (by omega)]
    · simp only [dif_neg h, if_neg h, zero_mul, Finset.sum_const_zero, add_zero]

/-- The frames' share through the first tap. -/
theorem pay30_apply (x : FVec Ideal S64x128x192 .f32) (Wc : FVec Ideal S2x256x128 .f32) (r : Fin 8192) (j : Fin 128) :
    Gen.k0_pay30 (shapeCast S8192x192 x shapeCasts_S64x128x192_S8192x192) (eWx0 Wc) (ix2 r j)
      = (∑ k : Fin 192, x (ix3 (⟨r.val / 128, by omega⟩ : Fin 64) (⟨r.val % 128, by omega⟩ : Fin 128) k) * Wc (ix3 0 (⟨k.val, by omega⟩ : Fin 256) j) : EReal) := by
  pointwise [Gen.k0_pay30, Gen.k0_pay29, eWx0]

/-- The frames' share through the second tap, of the row after. -/
theorem pay31_apply (x : FVec Ideal S64x128x192 .f32) (Wc : FVec Ideal S2x256x128 .f32) (r : Fin 8192) (j : Fin 128) (h : r.val < 8191) :
    Gen.k0_pay31 (shapeCast S8192x192 x shapeCasts_S64x128x192_S8192x192) (eWx1 Wc) (ix2 r j)
      = (∑ k : Fin 192, x (ix3 (⟨(1 + r.val) / 128, by omega⟩ : Fin 64) (⟨(1 + r.val) % 128, by omega⟩ : Fin 128) k) * Wc (ix3 1 (⟨k.val, by omega⟩ : Fin 256) j) : EReal) := by
  pointwise [Gen.k0_pay31, Gen.k0_pay29, eWx1]
  rw [dif_pos h]

/-- The three shares together: the row `t * 64 + b` is frame `t` of line `b`. -/
theorem pay32_apply (a : FVec Ideal S128x128 .f32) (p q : FVec Ideal S8192x128 .f32) (b : Fin 64) (t : Fin 128) (j : Fin 128)
    (r : Fin 8192) (hr : r.val = t.val * 64 + b.val) :
    Gen.k0_pay32 a p q (ix2 r j) = (max (p (ix2 (⟨b.val * 128 + t.val, by omega⟩ : Fin 8192) j)
      + (if t.val = 127 then (0 : EReal) else q (ix2 (⟨b.val * 128 + t.val, by omega⟩ : Fin 8192) j)) + a (ix2 t j)) 0 : EReal) := by
  have hb : r.val % 64 = b.val := by omega
  have ht : r.val / 64 = t.val := by omega
  have hc : Scalar.select (Scalar.cmpi CmpIPredicate.eq 128#32 0#32) 1#32 128#32 = 128#32 := by decide
  have hc' : Scalar.cmpi CmpIPredicate.slt 128#32 0#32 = 0#1 := by decide
  pointwise [Gen.k0_pay32]
  simp only [hc, hc', hb, ht]
  rw [lastFrame_word _ (by omega)]
  have hm : (b.val * 128 + t.val) % 128 = t.val := by omega
  rw [hm]
  by_cases h : t.val = 127
  · rw [if_pos h, if_pos h, ValueIdx.select_one]
  · rw [if_neg h, if_neg h, ValueIdx.select_zero]

/-- The kernel's convolution at a frame. -/
theorem conv_ker (x : FVec Ideal S64x128x192 .f32) (hf hb : FVec Ideal S64x32 .f32) (Wc : FVec Ideal S2x256x128 .f32) (bc : FVec Ideal S128 .f32)
    (b : Fin 64) (t : Fin 128) (j : Fin 128) (r : Fin 8192) (hr : r.val = t.val * 64 + b.val) :
    Gen.k0_pay32 (kConv hf hb (eWz0 Wc) (eWz1 Wc) (shapeCast S1x128 bc shapeCasts_S128_S1x128))
        (Gen.k0_pay30 (shapeCast S8192x192 x shapeCasts_S64x128x192_S8192x192) (eWx0 Wc))
        (Gen.k0_pay31 (shapeCast S8192x192 x shapeCasts_S64x128x192_S8192x192) (eWx1 Wc)) (ix2 r j)
      = convVal x hf hb Wc bc b t j := by
  rw [pay32_apply _ _ _ b t j r hr, kConv_apply, pay30_apply]
  unfold convVal tapSum
  have e1 : (b.val * 128 + t.val) / 128 = b.val := by omega
  have e2 : (b.val * 128 + t.val) % 128 = t.val := by omega
  by_cases h : t.val < 127
  · rw [pay31_apply _ _ _ _ (show b.val * 128 + t.val < 8191 by omega)]
    have e3 : (1 + (b.val * 128 + t.val)) / 128 = b.val := by omega
    have e4 : (1 + (b.val * 128 + t.val)) % 128 = 1 + t.val := by omega
    simp only [e1, e2, e3, e4, if_pos h, dif_pos h, if_neg (show ¬ t.val = 127 by omega)]
    ac_rfl
  · simp only [e1, e2, if_neg h, dif_neg h, if_pos (show t.val = 127 by omega), add_zero, add_assoc]

/-- The kernel's convolution is the reference's. -/
theorem conv_eq (x : FVec Ideal S64x128x192 .f32) (z : IVec S64x5 32) (emb : FVec Ideal S184x8 .f32) (Wf : FVec Ideal S8x128 .f32)
    (Uf : FVec Ideal S32x128 .f32) (bf : FVec Ideal S128 .f32) (Wb : FVec Ideal S8x128 .f32) (Ub : FVec Ideal S32x128 .f32)
    (bb : FVec Ideal S128 .f32) (Wc : FVec Ideal S2x256x128 .f32) (bc : FVec Ideal S128 .f32)
    (hz : ∀ (b : Fin 64) (t : Fin 5), 0 ≤ (z (ix2 b t)).toInt ∧ (z (ix2 b t)).toInt < 184)
    (b : Fin 64) (t : Fin 128) (j : Fin 128) (r : Fin 8192) (hr : r.val = t.val * 64 + b.val) :
    Hand.convRows (eTok z) (shapeCast S8192x192 x shapeCasts_S64x128x192_S8192x192) emb Wf Uf (shapeCast S1x128 bf shapeCasts_S128_S1x128)
        Wb Ub (shapeCast S1x128 bb shapeCasts_S128_S1x128) (eWx0 Wc) (eWx1 Wc) (eWz0 Wc) (eWz1 Wc)
        (shapeCast S1x128 bc shapeCasts_S128_S1x128) (ix2 r j)
      = refConv x z emb Wf Uf bf Wb Ub bb Wc bc (ix3 b t j) := by
  unfold Hand.convRows refConv
  rw [tokConv_ref _ _ _ _ _ _ _ _ _ _ _ hz, conv_ker _ _ _ _ _ b t j r hr]
  exact (conv_ref _ _ _ _ _ b t j).symm

end Cert.Join

end
-- ==== Proof.Join.Real.lean ====
/-
  Real numbers among the extended reals: which operations stay among them, and the layer norm's algebra on them.
-/
module

public import proofs.«01_k».proof.Proof.Join.Conv

@[expose] public section

noncomputable section

namespace Cert.Join

open Idealize.ShloMosaic

/-- An extended real that is a real number. -/
def IsReal (a : EReal) : Prop := ∃ r : ℝ, a = (r : EReal)

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.max {a b : EReal} (ha : IsReal a) (hb : IsReal b) : IsReal (max a b) := by
  rcases le_total a b with h | h
  · rwa [max_eq_right h]
  · rwa [max_eq_left h]

theorem isReal_sum {ι : Type} (s : Finset ι) (f : ι → EReal) (h : ∀ i, IsReal (f i)) : IsReal (∑ i ∈ s, f i) := by
  classical
  induction s using Finset.induction_on with
  | empty => exact isReal_zero
  | insert a s ha ih => rw [Finset.sum_insert ha]; exact (h a).add ih

/-- The logistic function is a real number everywhere. -/
theorem isReal_logistic (a : EReal) : IsReal (Ideal.logistic a) := by
  induction a with
  | bot => rw [Ideal.logistic_bot]; exact isReal_zero
  | coe r => rw [Ideal.logistic_coe]; exact isReal_coe _
  | top => rw [Ideal.logistic_top]; exact isReal_one

/-- The hyperbolic tangent is a real number everywhere. -/
theorem isReal_tanh (a : EReal) : IsReal (Ideal.tanh a) := by
  induction a with
  | bot => rw [Ideal.tanh_bot]; exact ⟨-1, rfl⟩
  | coe r => rw [Ideal.tanh_coe]; exact isReal_coe _
  | top => rw [Ideal.tanh_top]; exact isReal_one

/-- A sum of reals is the same among the extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- Multiplying by a real number distributes over adding a real number to any extended real. -/
theorem coe_add_mul (a w : ℝ) (b : EReal) : ((a : EReal) + b) * (w : EReal) = ((a * w : ℝ) : EReal) + b * (w : EReal) := by
  induction b with
  | bot =>
    rw [EReal.add_bot]
    rcases lt_trichotomy w 0 with h | rfl | h
    · rw [EReal.bot_mul_coe_of_neg h, EReal.coe_add_top]
    · simp
    · rw [EReal.bot_mul_coe_of_pos h, EReal.add_bot]
  | coe r => rw [← EReal.coe_add, ← EReal.coe_mul, ← EReal.coe_mul, ← EReal.coe_add, add_mul]
  | top =>
    rw [EReal.coe_add_top]
    rcases lt_trichotomy w 0 with h | rfl | h
    · rw [EReal.top_mul_coe_of_neg h, EReal.add_bot]
    · simp
    · rw [EReal.top_mul_coe_of_pos h, EReal.coe_add_top]

/-- Two sums in the other order: a row against a matrix against a column. -/
theorem row_mat_col (y : Fin 128 → ℝ) (W : Fin 128 → Fin 1024 → ℝ) (f : Fin 1024 → ℝ) :
    ∑ j, y j * ∑ k, W j k * f k = ∑ k, (∑ j, y j * W j k) * f k := by
  simp only [Finset.mul_sum, Finset.sum_mul]
  rw [Finset.sum_comm]
  exact Finset.sum_congr rfl fun k _ => Finset.sum_congr rfl fun j _ => by ring

/-- The dense layer of a row. -/
def hid (y : Fin 128 → ℝ) (W : Fin 128 → Fin 1024 → ℝ) (d : Fin 1024 → ℝ) (k : Fin 1024) : ℝ := (∑ j, y j * W j k) + d k

/-- The dense layer's sum, from the matrix's row sums. -/
theorem hid_sum (y : Fin 128 → ℝ) (W : Fin 128 → Fin 1024 → ℝ) (d : Fin 1024 → ℝ) :
    ∑ k, hid y W d k = (∑ j, y j * ∑ k, W j k) + ∑ k, d k := by
  have h := row_mat_col y W fun _ => 1
  simp only [mul_one] at h
  simp only [hid, Finset.sum_add_distrib, h]

/-- The dense layer's sum of squares, from the matrix's products with itself. -/
theorem hid_sq (y : Fin 128 → ℝ) (W : Fin 128 → Fin 1024 → ℝ) (d : Fin 1024 → ℝ) :
    ∑ k, hid y W d k * hid y W d k
      = ((∑ j, (∑ i, y i * ∑ k, W i k * W j k) * y j) + 2 * ∑ j, y j * ∑ k, W j k * d k) + ∑ k, d k * d k := by
  have h1 : (∑ j, (∑ i, y i * ∑ k, W i k * W j k) * y j) = ∑ k, (∑ j, y j * W j k) * ∑ j, y j * W j k := by
    rw [← row_mat_col y W fun k => ∑ j, y j * W j k]
    refine Finset.sum_congr rfl fun j _ => ?_
    rw [row_mat_col y W (W j), mul_comm]
    exact congrArg _ (Finset.sum_congr rfl fun k _ => mul_comm _ _)
  rw [h1, row_mat_col y W d, Finset.mul_sum, ← Finset.sum_add_distrib, ← Finset.sum_add_distrib]
  exact Finset.sum_congr rfl fun k _ => by unfold hid; ring

/-- The mean of the squared deviations is the mean square less the squared mean. -/
theorem var_eq (h : Fin 1024 → ℝ) (mu : ℝ) (hmu : mu = (∑ k, h k) * (1 / 1024)) :
    (∑ k, (h k - mu) * (h k - mu)) * (1 / 1024) = (∑ k, h k * h k) * (1 / 1024) - mu * mu := by
  have e : (∑ k, (h k - mu) * (h k - mu)) = (∑ k, h k * h k) - 2 * mu * (∑ k, h k) + 1024 * (mu * mu) := by
    rw [Finset.mul_sum, ← Finset.sum_sub_distrib]
    have c : (1024 : ℝ) * (mu * mu) = ∑ _k : Fin 1024, mu * mu := by simp
    rw [c, ← Finset.sum_add_distrib]
    exact Finset.sum_congr rfl fun k _ => by ring
  have s : ∑ k, h k = 1024 * mu := by rw [hmu]; ring
  rw [e, s]
  ring

end Cert.Join

end
-- ==== Proof.Join.Norm.lean ====
/-
  The dense layer, its normalisation and the frames' input weights: the kernel multiplies the three out beforehand, the
  reference runs them one after another, and on real numbers the two agree.
-/
module

public import proofs.«01_k».proof.Proof.Join.Real

@[expose] public section

set_option maxRecDepth 16384

noncomputable section

namespace Cert.Join

open Idealize.ShloMosaic Cert.KernelIdeal Cert.KernelIdeal.Facts₀ Cert.KernelIdeal.Facts
open Cert.KernelIdeal.Hand (eWl eUl eBl)
open Cert.ReferenceIdeal.Hand (refRows normFrames meanFrames varFrames varCount denseFrames)

/-- The pattern of two. -/
theorem bits_two : Ideal.ofBits .f32 0x40000000#32 = ((2 : ℝ) : EReal) := by
  simp [Ideal.ofBits, Ideal.ieee, -EReal.coe_mul]; norm_num

/-- The pattern of the number of hidden units. -/
theorem bits_count : Ideal.ofBits .f32 0x44800000#32 = ((1024 : ℝ) : EReal) := by
  simp [Ideal.ofBits, Ideal.ieee, -EReal.coe_mul]; norm_num

/-- The pattern of its reciprocal. -/
theorem bits_recip : Ideal.ofBits .f32 0x3A800000#32 = ((1 / 1024 : ℝ) : EReal) := by
  simp [Ideal.ofBits, Ideal.ieee, -EReal.coe_mul]; norm_num

/-- What the normalisation adds to the variance, `0x358637BD` read as a number. -/
def epsR : ℝ := 8796093 / 8796093022208

theorem epsR_pos : 0 < epsR := by unfold epsR; norm_num

/-- The pattern of what the normalisation adds to the variance. -/
theorem bits_eps : Ideal.ofBits .f32 0x358637BD#32 = (epsR : EReal) := by
  unfold epsR
  simp [Ideal.ofBits, Ideal.ieee, -EReal.coe_mul]; norm_num

section
variable (y : Fin 128 → EReal) (W : Fin 128 → Fin 1024 → EReal) (d g b w : Fin 1024 → EReal) (e : EReal)

/-- The kernel's mean of a row. -/
def kerMean : EReal := ((∑ x, y x * ∑ k, W x k) + ∑ k, d k) * ((1 / 1024 : ℝ) : EReal)

/-- The kernel's reciprocal deviation of a row. -/
def kerInv : EReal :=
  Ideal.rsqrt ((((∑ x, (∑ x', y x' * ∑ k, W x' k * W x k) * y x) + ((2 : ℝ) : EReal) * ∑ x, y x * ∑ k, W x k * d k)
    + ∑ k, d k * d k) * ((1 / 1024 : ℝ) : EReal) - kerMean y W d * kerMean y W d + (epsR : EReal))

/-- The kernel's gate input of a row and a gate column. -/
def kerGate : EReal :=
  kerInv y W d * ((∑ x, y x * ∑ k, W x k * (g k * w k)) + ∑ k, d k * (g k * w k))
    - kerInv y W d * kerMean y W d * (∑ k, g k * w k) + ((∑ k, b k * w k) + e)

/-- The reference's dense layer of a row. -/
def refHid (k : Fin 1024) : EReal := (∑ x, y x * W x k) + d k

/-- The reference's mean of a row. -/
def refMean : EReal := Ideal.div (∑ k, refHid y W d k) ((1024 : ℝ) : EReal)

/-- The reference's normalised value of a row at a hidden unit. -/
def refNorm (k : Fin 1024) : EReal :=
  Ideal.div (refHid y W d k - refMean y W d)
    (Ideal.sqrt (Ideal.div (∑ k, (refHid y W d k - refMean y W d) * (refHid y W d k - refMean y W d)) ((1024 : ℝ) : EReal) + (epsR : EReal)))
    * g k + b k

end

section
variable (y : Fin 128 → ℝ) (W : Fin 128 → Fin 1024 → ℝ) (d g w : Fin 1024 → ℝ) (b : Fin 1024 → EReal) (e : EReal)

/-- The mean of a row. -/
def muR : ℝ := (∑ k, hid y W d k) * (1 / 1024)

/-- The variance of a row with the normalisation's addition. -/
def varR : ℝ := (∑ k, (hid y W d k - muR y W d) * (hid y W d k - muR y W d)) * (1 / 1024) + epsR

theorem varR_pos : 0 < varR y W d :=
  add_pos_of_nonneg_of_pos (mul_nonneg (Finset.sum_nonneg fun _ _ => mul_self_nonneg _) (by norm_num)) epsR_pos

/-- The reference's dense layer on real numbers. -/
theorem refHid_coe (k : Fin 1024) : refHid (fun x => (y x : EReal)) (fun x k => (W x k : EReal)) (fun k => (d k : EReal)) k = (hid y W d k : EReal) := by
  unfold refHid hid
  simp only [← EReal.coe_mul, ← coe_sum, ← EReal.coe_add]

/-- The reference's mean on real numbers. -/
theorem refMean_coe : refMean (fun x => (y x : EReal)) (fun x k => (W x k : EReal)) (fun k => (d k : EReal)) = (muR y W d : EReal) := by
  unfold refMean
  simp only [refHid_coe, ← coe_sum]
  rw [Ideal.div_coe (by norm_num), ← EReal.coe_mul]
  rfl

/-- The kernel's mean on real numbers. -/
theorem kerMean_coe : kerMean (fun x => (y x : EReal)) (fun x k => (W x k : EReal)) (fun k => (d k : EReal)) = (muR y W d : EReal) := by
  unfold kerMean muR
  simp only [← EReal.coe_mul, ← coe_sum, ← EReal.coe_add]
  rw [hid_sum]

/-- The kernel's reciprocal deviation on real numbers. -/
theorem kerInv_coe : kerInv (fun x => (y x : EReal)) (fun x k => (W x k : EReal)) (fun k => (d k : EReal))
    = (((Real.sqrt (varR y W d))⁻¹ : ℝ) : EReal) := by
  unfold kerInv
  simp only [kerMean_coe, ← EReal.coe_mul, ← coe_sum, ← EReal.coe_add, ← EReal.coe_sub]
  rw [← hid_sq, ← var_eq (hid y W d) (muR y W d) rfl]
  have h := varR_pos y W d
  unfold varR at h ⊢
  rw [Ideal.rsqrt_coe, if_neg (not_lt.mpr h.le), if_neg h.ne']

/-- The reference's normalised value on real numbers, the shift aside. -/
theorem refNorm_coe (k : Fin 1024) :
    refNorm (fun x => (y x : EReal)) (fun x k => (W x k : EReal)) (fun k => (d k : EReal)) (fun k => (g k : EReal)) b k
      = (((hid y W d k - muR y W d) * (Real.sqrt (varR y W d))⁻¹ * g k : ℝ) : EReal) + b k := by
  have h := varR_pos y W d
  unfold refNorm
  simp only [refHid_coe, refMean_coe, ← EReal.coe_mul, ← coe_sum, ← EReal.coe_sub]
  rw [Ideal.div_coe (show (1024 : ℝ) ≠ 0 by norm_num), ← EReal.coe_mul, ← EReal.coe_add]
  show Ideal.div _ (Ideal.sqrt ((varR y W d : ℝ) : EReal)) * _ + _ = _
  rw [Ideal.sqrt_coe, if_neg (not_lt.mpr h.le), Ideal.div_coe (Real.sqrt_pos.mpr h).ne', ← EReal.coe_mul, ← EReal.coe_mul, one_div]

/-- The kernel's gate input is the reference's normalised row against the gate's column, and the bias. -/
theorem kerGate_eq :
    kerGate (fun x => (y x : EReal)) (fun x k => (W x k : EReal)) (fun k => (d k : EReal)) (fun k => (g k : EReal)) b (fun k => (w k : EReal)) e
      = (∑ k, refNorm (fun x => (y x : EReal)) (fun x k => (W x k : EReal)) (fun k => (d k : EReal)) (fun k => (g k : EReal)) b k * (w k : EReal)) + e := by
  have hr : ∀ k, refNorm (fun x => (y x : EReal)) (fun x k => (W x k : EReal)) (fun k => (d k : EReal)) (fun k => (g k : EReal)) b k * (w k : EReal)
      = (((hid y W d k - muR y W d) * (Real.sqrt (varR y W d))⁻¹ * g k * w k : ℝ) : EReal) + b k * (w k : EReal) := fun k => by
    rw [refNorm_coe, coe_add_mul]
  simp only [hr, Finset.sum_add_distrib]
  unfold kerGate
  rw [kerInv_coe, kerMean_coe]
  simp only [← EReal.coe_mul, ← coe_sum, ← EReal.coe_add, ← EReal.coe_sub]
  rw [← add_assoc]
  refine congrArg (fun a : ℝ => (a : EReal) + _ + e) ?_
  rw [row_mat_col y W fun k => g k * w k, ← Finset.sum_add_distrib, Finset.mul_sum, Finset.mul_sum, ← Finset.sum_sub_distrib]
  exact Finset.sum_congr rfl fun k _ => by unfold hid; ring

end

/-- The kernel's gate inputs, read at a row and a column. -/
theorem gateRows_apply (y : FVec Ideal S8192x128 .bf16) (Wd : FVec Ideal S128x1024 .f32) (bd gamma beta : FVec Ideal S1024 .f32)
    (wl : FVec Ideal S1024x64 .f32) (bl : FVec Ideal S1x64 .f32) (r : Fin 8192) (b : Fin 64) :
    Hand.gateRows (F := Ideal) Wd (shapeCast S1x1024 bd shapeCasts_S1024_S1x1024)
      (shapeCast S1024x1 bd shapeCasts_S1024_S1024x1) (shapeCast S1x1024 gamma shapeCasts_S1024_S1x1024)
      (shapeCast S1024x1 gamma shapeCasts_S1024_S1024x1) (shapeCast S1x1024 beta shapeCasts_S1024_S1x1024) wl bl y (ix2 r b)
    = kerGate (fun x => y (ix2 (⟨r.val / 64 * 64 + b.val, by omega⟩ : Fin 8192) x)) (fun x k => Wd (ix2 x k)) (fun k => bd (ix1 k))
        (fun k => gamma (ix1 k)) (fun k => beta (ix1 k)) (fun k => wl (ix2 k (⟨r.val % 64, by omega⟩ : Fin 64)))
        (bl (ix2 (0 : Fin 1) (⟨r.val % 64, by omega⟩ : Fin 64))) := by
  pointwise [Hand.gateRows, Gen.k0_pay47, Gen.k0_pay37, Gen.k0_pay35, Gen.k0_pay38, Gen.k0_pay34, Gen.k0_pay39, Gen.k0_pay36,
    Gen.k0_pay33, Gen.k0_pay40, Gen.k0_pay41, Gen.k0_pay42, Gen.k0_pay43, Gen.k0_pay44, Gen.k0_pay45, Gen.k0_pay46]
  simp only [bits_recip, bits_two, bits_eps, Fin.sum_univ_one]
  rfl

/-- The reference's frames' inputs, read at a frame, a line and a hidden unit. -/
theorem refRows_apply (y : FVec Ideal Cert.ReferenceIdeal.S64x128x128 .f32) (Wd : FVec Ideal S128x1024 .f32) (bd gamma beta : FVec Ideal S1024 .f32)
    (t : Fin 128) (b : Fin 64) (k : Fin 1024) :
    refRows y Wd bd gamma beta (ix3 t b k)
      = refNorm (fun x => y (ix3 b t x)) (fun x k => Wd (ix2 x k)) (fun k => bd (ix1 k)) (fun k => gamma (ix1 k)) (fun k => beta (ix1 k)) k := by
  pointwise [refRows, normFrames, meanFrames, varFrames, varCount, denseFrames]
  simp only [pad_zero, bits_count, bits_eps, sub_zero]
  rw [if_pos (by exact_mod_cast (by norm_num : (0 : ℝ) < 1024))]
  rfl

/-- The kernel's gate input of a frame is the reference's row against the gate's column, and the bias, where the row, the dense
    layer, the scale and the column are real. -/
theorem gate_eq (yk : FVec Ideal S8192x128 .bf16) (y : FVec Ideal Cert.ReferenceIdeal.S64x128x128 .f32) (Wd : FVec Ideal S128x1024 .f32)
    (bd gamma beta : FVec Ideal S1024 .f32) (wl : FVec Ideal S1024x64 .f32) (bl : FVec Ideal S1x64 .f32)
    (hy : ∀ (b : Fin 64) (t : Fin 128) (j : Fin 128) (r : Fin 8192), r.val = t.val * 64 + b.val → yk (ix2 r j) = y (ix3 b t j))
    (ry : ∀ (b : Fin 64) (t j : Fin 128), IsReal (y (ix3 b t j))) (rW : ∀ (j : Fin 128) (k : Fin 1024), IsReal (Wd (ix2 j k)))
    (rd : ∀ k : Fin 1024, IsReal (bd (ix1 k))) (rg : ∀ k : Fin 1024, IsReal (gamma (ix1 k)))
    (rw' : ∀ (k : Fin 1024) (c : Fin 64), IsReal (wl (ix2 k c))) (t : Fin 128) (c b : Fin 64) (r : Fin 8192) (hr : r.val = t.val * 64 + c.val) :
    Hand.gateRows (F := Ideal) Wd (shapeCast S1x1024 bd shapeCasts_S1024_S1x1024)
      (shapeCast S1024x1 bd shapeCasts_S1024_S1024x1) (shapeCast S1x1024 gamma shapeCasts_S1024_S1x1024)
      (shapeCast S1024x1 gamma shapeCasts_S1024_S1024x1) (shapeCast S1x1024 beta shapeCasts_S1024_S1x1024) wl bl yk (ix2 r b)
    = (∑ k : Fin 1024, refRows y Wd bd gamma beta (ix3 t b k) * wl (ix2 k c) : EReal) + bl (ix2 (0 : Fin 1) c) := by
  rw [gateRows_apply]
  have e1 : r.val / 64 = t.val := by omega
  have e2 : r.val % 64 = c.val := by omega
  simp only [refRows_apply, e1, e2, fun j => hy b t j ⟨t.val * 64 + b.val, by omega⟩ rfl]
  choose y' hy' using ry b t
  choose W' hW' using rW
  choose d' hd' using rd
  choose g' hg' using rg
  choose w' hw' using fun k => rw' k c
  simp only [hy', hW', hd', hg', hw']
  exact kerGate_eq y' W' d' g' w' (fun k => beta (ix1 k)) (bl (ix2 (0 : Fin 1) c))

end Cert.Join

end
-- ==== Proof.Join.Frames.lean ====
/-
  The frames' LSTM: the kernel's four padded gate blocks carry the reference's gates, and its states the reference's.
-/
module

public import proofs.«01_k».proof.Proof.Join.Norm

@[expose] public section

set_option maxRecDepth 16384

noncomputable section

namespace Cert.Join

open Idealize.ShloMosaic Cert.KernelIdeal Cert.KernelIdeal.Facts₀ Cert.KernelIdeal.Facts
open Cert.KernelIdeal.Hand (eWl eUl eBl rowsAt frameState frameState_succ frameStep)
open Cert.ReferenceIdeal.Hand (lstmGates lstmCell lstmHid lstmSig lstmState lstmZero frameNo)

/-- A padded input weight in a gate's first ten columns. -/
theorem eWl_apply (w : FVec Ideal S1024x40 .f32) (k : Fin 1024) (q : Fin 4) (i : Fin 10) (c : Fin 64) (c' : Fin 40)
    (hc : c.val = 16 * q.val + i.val) (hc' : c'.val = 10 * q.val + i.val) : eWl w (ix2 k c) = w (ix2 k c') := by
  pointwise [eWl]
  rw [dif_pos (by omega)]
  exact congrArg w (congrArg (ix2 k) (Fin.ext (by show c.val / 16 * 10 + c.val % 16 = c'.val; omega)))

/-- A padded input weight is real where the weights are. -/
theorem eWl_real (w : FVec Ideal S1024x40 .f32) (hw : ∀ (k : Fin 1024) (c : Fin 40), IsReal (w (ix2 k c))) (k : Fin 1024) (c : Fin 64) :
    IsReal (eWl w (ix2 k c)) := by
  pointwise [eWl]
  split
  · exact hw _ _
  · rw [pad_zero]; exact isReal_zero

/-- A padded bias in a gate's first ten columns. -/
theorem eBl_apply (w : FVec Ideal S40 .f32) (q : Fin 4) (i : Fin 10) (c : Fin 64) (c' : Fin 40)
    (hc : c.val = 16 * q.val + i.val) (hc' : c'.val = 10 * q.val + i.val) : eBl w (ix2 (0 : Fin 1) c) = w (ix1 c') := by
  pointwise [eBl]
  rw [dif_pos (by omega)]
  exact congrArg w (congrArg ix1 (Fin.ext (by show c.val / 16 * 10 + c.val % 16 = c'.val; omega)))

/-- A padded recurrent weight in a gate's first ten rows: zero from the tenth column on. -/
theorem eUl_apply (u : FVec Ideal S10x40 .f32) (q : Fin 4) (i : Fin 10) (c : Fin 64) (c' : Fin 40) (d : Fin 16)
    (hc : c.val = 16 * q.val + i.val) (hc' : c'.val = 10 * q.val + i.val) :
    eUl u (ix2 c d) = if h : d.val < 10 then u (ix2 (⟨d.val, h⟩ : Fin 10) c') else (0 : EReal) := by
  pointwise [eUl]
  by_cases h : d.val < 10
  · rw [dif_pos h, dif_pos ⟨by omega, by omega, h⟩]
    exact congrArg u (congrArg (ix2 (⟨d.val, h⟩ : Fin 10)) (Fin.ext (by show c.val / 16 * 10 + c.val % 16 = c'.val; omega)))
  · refine (dif_neg fun h' => h h'.2.2).trans (pad_zero.trans ?_)
    split
    · exact absurd ‹_› h
    · rfl

/-- The staged row a trip reads. -/
theorem rowsAt_apply (gx : Vec Ideal S8192x64 .f32) (t : Fin k0_t1_loop.trips) (c b : Fin 64) (r : Fin 8192) (hr : r.val = t.val * 64 + c.val) :
    rowsAt gx t (ix2 c b) = gx (ix2 r b) := by
  have ho := Gen.k0_off1_eq t
  unfold rowsAt VecWindow.window
  refine congrArg gx (funext fun a => Fin.ext ?_)
  show k0_off1 t a + 1 * (ix2 c b a).val = (ix2 r b a).val
  rw [ho]
  match a with
  | 0 => show 64 * t.val + 1 * c.val = r.val; omega
  | 1 => show 0 + 1 * b.val = b.val; omega

/-- The frame number is the trip's. -/
theorem frameNo_eq (k : ℕ) : frameNo k = constantI Cert.ReferenceIdeal.S_ 32 (BitVec.ofNat 32 k) := by
  induction k with
  | zero => rfl
  | succ k ih =>
    funext j
    show IntOp.addi (frameNo k j) 1#32 = BitVec.ofNat 32 (k + 1)
    rw [ih, BitVec.ofNat_add]
    rfl

/-- The rows of frame `t`, cut out at a start the program computes. -/
theorem rowSlice_apply (rows : FVec Ideal Cert.ReferenceIdeal.S128x64x1024 .f32) (start : Fin 3 → ℤ) (t : Fin 128) (h0 : start 0 = (t.val : ℤ))
    (h1 : start 1 = 0) (h2 : start 2 = 0) (b : Fin 64) (k : Fin 1024) :
    Host.dynamicSlice Cert.ReferenceIdeal.S1x64x1024 rows start Cert.ReferenceIdeal.Facts₀.sliceFits_S128x64x1024_S1x64x1024 (ix3 (0 : Fin 1) b k)
      = rows (ix3 t b k) := by
  rw [Host.dynamicSlice_apply]
  refine congrArg rows (funext fun a => Fin.ext ?_)
  match a with
  | 0 =>
    show Host.clampedStart Cert.ReferenceIdeal.S128x64x1024 Cert.ReferenceIdeal.S1x64x1024 _ start 0 + 0 = t.val
    rw [Host.clampedStart_of_le (s := Cert.ReferenceIdeal.S128x64x1024) (t := Cert.ReferenceIdeal.S1x64x1024) _ start 0 t.val h0 (by show t.val + 1 ≤ 128; exact t.isLt)]
    rfl
  | 1 =>
    show Host.clampedStart Cert.ReferenceIdeal.S128x64x1024 Cert.ReferenceIdeal.S1x64x1024 _ start 1 + b.val = b.val
    rw [Host.clampedStart_of_le (s := Cert.ReferenceIdeal.S128x64x1024) (t := Cert.ReferenceIdeal.S1x64x1024) _ start 1 0 h1 (by show 0 + 64 ≤ 64; omega), Nat.zero_add]
  | 2 =>
    show Host.clampedStart Cert.ReferenceIdeal.S128x64x1024 Cert.ReferenceIdeal.S1x64x1024 _ start 2 + k.val = k.val
    rw [Host.clampedStart_of_le (s := Cert.ReferenceIdeal.S128x64x1024) (t := Cert.ReferenceIdeal.S1x64x1024) _ start 2 0 h2 (by show 0 + 1024 ≤ 1024; omega), Nat.zero_add]

/-- The reference's gates of a frame's rows `X`. -/
def gatesOf (X : FVec Ideal Cert.ReferenceIdeal.S1x64x1024 .f32) (Wl : FVec Ideal S1024x40 .f32) (Ul : FVec Ideal S10x40 .f32)
    (bl : FVec Ideal S40 .f32) (h : FVec Ideal S64x10 .f32) : FVec Ideal Cert.ReferenceIdeal.S64x40 .f32 :=
  addf (addf (Host.dotGeneral Cert.ReferenceIdeal.dot_S64x1024_S1024x40_S64x40_1_0_0_1_n_n none
        (shapeCast Cert.ReferenceIdeal.S64x1024 X Cert.ReferenceIdeal.Facts₀.shapeCasts_S1x64x1024_S64x1024) Wl)
      (Host.dotGeneral Cert.ReferenceIdeal.dot_S64x10_S10x40_S64x40_1_0_0_1_n_n none h Ul))
    (broadcastInDim Cert.ReferenceIdeal.S64x40 ![0, 1] Cert.ReferenceIdeal.Facts₀.bcast_S1x40_S64x40_0_1
      (broadcastInDim Cert.ReferenceIdeal.S1x40 ![1] Cert.ReferenceIdeal.Facts₀.bcast_S40_S1x40_1 bl))

/-- Those gates, read at a line and a column. -/
theorem gatesOf_apply (X : FVec Ideal Cert.ReferenceIdeal.S1x64x1024 .f32) (Wl : FVec Ideal S1024x40 .f32) (Ul : FVec Ideal S10x40 .f32)
    (bl : FVec Ideal S40 .f32) (h : FVec Ideal S64x10 .f32) (b : Fin 64) (c : Fin 40) :
    gatesOf X Wl Ul bl h (ix2 b c)
      = ((∑ k : Fin 1024, X (ix3 (0 : Fin 1) b k) * Wl (ix2 k c) : EReal) + (∑ k : Fin 10, h (ix2 b k) * Ul (ix2 k c) : EReal)) + bl (ix1 c) := by
  pointwise [gatesOf]

/-- A gate of the reference, read at a line and a column. -/
theorem lstmGates_apply (rows : FVec Ideal Cert.ReferenceIdeal.S128x64x1024 .f32) (Wl : FVec Ideal S1024x40 .f32) (Ul : FVec Ideal S10x40 .f32)
    (bl : FVec Ideal S40 .f32) (t : Fin 128) (h : FVec Ideal S64x10 .f32) (b : Fin 64) (c : Fin 40) :
    lstmGates rows Wl Ul bl (frameNo t.val) h (ix2 b c)
      = ((∑ k : Fin 1024, rows (ix3 t b k) * Wl (ix2 k c) : EReal) + (∑ k : Fin 10, h (ix2 b k) * Ul (ix2 k c) : EReal)) + bl (ix1 c) := by
  have hk : (BitVec.ofNat 32 t.val).toInt = (t.val : ℤ) := by
    have ht := t.isLt
    have h := BitVec.toInt_eq_toNat_cond (BitVec.ofNat 32 t.val)
    rw [BitVec.toNat_ofNat, Nat.mod_eq_of_lt (by omega)] at h
    rw [h, if_pos (by omega)]
  rw [frameNo_eq]
  refine (gatesOf_apply _ Wl Ul bl h b c).trans ?_
  simp only [fun k => rowSlice_apply rows
    (fun k => ((![constantI Cert.ReferenceIdeal.S_ 32 (BitVec.ofNat 32 t.val), constantI Cert.ReferenceIdeal.S_ 32 0#32,
      constantI Cert.ReferenceIdeal.S_ 32 0#32] : Fin 3 → IVec Cert.ReferenceIdeal.S_ 32) k (Shape.Idx.first Cert.ReferenceIdeal.Facts₀.h_S_)).toInt)
    t hk rfl rfl b k]

/-- The kernel's gate of a frame, in a gate's first ten rows, is the reference's, where the two states agree. -/
theorem gate_step (gx : Vec Ideal S8192x64 .f32) (rows : FVec Ideal Cert.ReferenceIdeal.S128x64x1024 .f32) (Wl : FVec Ideal S1024x40 .f32)
    (Ul : FVec Ideal S10x40 .f32) (bl : FVec Ideal S40 .f32)
    (hgx : ∀ (t : Fin 128) (c b : Fin 64) (r : Fin 8192), r.val = t.val * 64 + c.val →
      gx (ix2 r b) = (∑ k : Fin 1024, rows (ix3 t b k) * eWl Wl (ix2 k c) : EReal) + eBl bl (ix2 (0 : Fin 1) c))
    (t : Fin k0_t1_loop.trips) (h : FVec Ideal S16x64 .f32) (h' : FVec Ideal S64x10 .f32)
    (hh : ∀ (i : Fin 10) (b : Fin 64), h (ix2 (⟨i.val, by omega⟩ : Fin 16) b) = h' (ix2 b i))
    (q : Fin 4) (i : Fin 10) (b c : Fin 64) (c' : Fin 40) (hc : c.val = 16 * q.val + i.val) (hc' : c'.val = 10 * q.val + i.val) :
    (rowsAt gx t (ix2 c b) + ∑ x : Fin 16, eUl Ul (ix2 c x) * h (ix2 x b) : EReal)
      = lstmGates rows Wl Ul bl (frameNo t.val) h' (ix2 b c') := by
  have ht : t.val < 128 := t.isLt
  rw [rowsAt_apply gx t c b ⟨t.val * 64 + c.val, by omega⟩ rfl, hgx ⟨t.val, ht⟩ c b _ rfl, lstmGates_apply rows Wl Ul bl ⟨t.val, ht⟩]
  have hs : (∑ x : Fin 16, eUl Ul (ix2 c x) * h (ix2 x b) : EReal) = ∑ k : Fin 10, h' (ix2 b k) * Ul (ix2 k c') := by
    have hu : ∀ x : Fin 16, eUl Ul (ix2 c x) = if h : x.val < 10 then Ul (ix2 (⟨x.val, h⟩ : Fin 10) c') else (0 : EReal) := fun x =>
      eUl_apply Ul q i c c' x hc hc'
    have hz : (∑ x : Fin 6, eUl Ul (ix2 c (Fin.natAdd 10 x)) * h (ix2 (Fin.natAdd 10 x) b) : EReal) = 0 := by
      refine Finset.sum_eq_zero fun x _ => ?_
      rw [hu, dif_neg (show ¬ (Fin.natAdd 10 x).val < 10 from fun h => by rw [Fin.val_natAdd] at h; omega), zero_mul]
    rw [Fin.sum_univ_add (a := 10) (b := 6) fun x : Fin (10 + 6) => (eUl Ul (ix2 c x) * h (ix2 x b) : EReal), hz, add_zero]
    refine Finset.sum_congr rfl fun k _ => ?_
    rw [hu, dif_pos (show (Fin.castAdd 6 k).val < 10 from k.isLt), mul_comm]
    exact congrArg (· * _) (hh k b)
  rw [hs, eBl_apply bl q i c c' hc hc']
  simp only [fun k => eWl_apply Wl k q i c c' hc hc']
  rw [add_right_comm]

/-- The kernel's states are the reference's, with lines and units exchanged. -/
theorem states_eq (gx : Vec Ideal S8192x64 .f32) (rows : FVec Ideal Cert.ReferenceIdeal.S128x64x1024 .f32) (Wl : FVec Ideal S1024x40 .f32)
    (Ul : FVec Ideal S10x40 .f32) (bl : FVec Ideal S40 .f32)
    (hgx : ∀ (t : Fin 128) (c b : Fin 64) (r : Fin 8192), r.val = t.val * 64 + c.val →
      gx (ix2 r b) = (∑ k : Fin 1024, rows (ix3 t b k) * eWl Wl (ix2 k c) : EReal) + eBl bl (ix2 (0 : Fin 1) c))
    (k : ℕ) (hk : k ≤ 128) (i : Fin 10) (b : Fin 64) :
    (frameState (eUl Ul) gx (Gen.k0_pay48 (F := Ideal), Gen.k0_pay48 (F := Ideal)) k).1 (ix2 (⟨i.val, by omega⟩ : Fin 16) b)
        = (lstmState rows Wl Ul bl k).1 (ix2 b i)
      ∧ (frameState (eUl Ul) gx (Gen.k0_pay48 (F := Ideal), Gen.k0_pay48 (F := Ideal)) k).2 (ix2 (⟨i.val, by omega⟩ : Fin 16) b)
        = (lstmState rows Wl Ul bl k).2 (ix2 b i) := by
  induction k generalizing i b with
  | zero =>
    show Gen.k0_pay48 (F := Ideal) (ix2 (⟨i.val, by omega⟩ : Fin 16) b) = lstmZero (ix2 b i) ∧ Gen.k0_pay48 (F := Ideal) (ix2 (⟨i.val, by omega⟩ : Fin 16) b) = lstmZero (ix2 b i)
    pointwise [Gen.k0_pay48, lstmZero]
  | succ k ih =>
    have ih' := fun i b => ih (by omega) i b
    have e := frameState_succ (eUl Ul) gx (Gen.k0_pay48 (F := Ideal), Gen.k0_pay48 (F := Ideal)) ⟨k, show k < 128 by omega⟩
    have e' : frameState (eUl Ul) gx (Gen.k0_pay48 (F := Ideal), Gen.k0_pay48 (F := Ideal)) (k + 1) = _ := e
    rw [e']
    generalize hs : frameState (eUl Ul) gx (Gen.k0_pay48 (F := Ideal), Gen.k0_pay48 (F := Ideal)) k = s at ih'
    have hg := gate_step gx rows Wl Ul bl hgx ⟨k, show k < 128 by omega⟩ s.1 (lstmState rows Wl Ul bl k).1 (fun i b => (ih' i b).1)
    have hc : Gen.k0_pay50 (eUl Ul) s.1 s.2 (rowsAt gx ⟨k, show k < 128 by omega⟩) (ix2 (⟨i.val, by omega⟩ : Fin 16) b)
        = lstmCell (lstmGates rows Wl Ul bl (frameNo k) (lstmState rows Wl Ul bl k).1) (lstmState rows Wl Ul bl k).2 (ix2 b i) := by
      pointwise [Gen.k0_pay50, Gen.k0_pay49, lstmCell, lstmSig]
      rw [hg 0 i b ⟨i.val, by omega⟩ ⟨i.val, by omega⟩ (by simp) (by simp), hg 1 i b ⟨16 + i.val, by omega⟩ ⟨10 + i.val, by omega⟩ rfl rfl,
        hg 2 i b ⟨32 + i.val, by omega⟩ ⟨20 + i.val, by omega⟩ rfl rfl, (ih' i b).2]
      rfl
    refine ⟨?_, hc⟩
    show Gen.k0_pay51 (eUl Ul) s.1 s.2 (rowsAt gx ⟨k, show k < 128 by omega⟩) (ix2 (⟨i.val, by omega⟩ : Fin 16) b)
      = lstmHid (lstmGates rows Wl Ul bl (frameNo k) (lstmState rows Wl Ul bl k).1)
          (lstmCell (lstmGates rows Wl Ul bl (frameNo k) (lstmState rows Wl Ul bl k).1) (lstmState rows Wl Ul bl k).2) (ix2 b i)
    unfold Gen.k0_pay51
    generalize Gen.k0_pay50 (eUl Ul) s.1 s.2 (rowsAt gx ⟨k, show k < 128 by omega⟩) = ck at hc ⊢
    generalize lstmCell (lstmGates rows Wl Ul bl (frameNo k) (lstmState rows Wl Ul bl k).1) (lstmState rows Wl Ul bl k).2 = cr at hc ⊢
    pointwise [Gen.k0_pay49, lstmHid, lstmSig]
    rw [hg 3 i b ⟨48 + i.val, by omega⟩ ⟨30 + i.val, by omega⟩ rfl rfl, hc]
    rfl

end Cert.Join

end
-- ==== Proof.Join.Final.lean ====
/-
  The two programs' results are the same function of the arguments.
-/
module

public import proofs.«01_k».proof.Proof.Join.Frames

@[expose] public section

set_option maxRecDepth 16384

noncomputable section

namespace Cert.Join

open Idealize.ShloMosaic Cert.KernelIdeal Cert.KernelIdeal.Facts₀ Cert.KernelIdeal.Facts
open Cert.KernelIdeal.Hand (kernelOut eTok eWx0 eWx1 eWz0 eWz1 eWl eUl eBl)
open Cert.ReferenceIdeal.Hand (refOut refConv refRows tokRun tokStep tokHid tokSig lstmState)

/-- A token LSTM's state is real. -/
theorem tokRun_real (W : FVec Ideal S8x128 .f32) (U : FVec Ideal S32x128 .f32) (b : FVec Ideal S128 .f32)
    (ze : FVec Ideal Cert.ReferenceIdeal.S64x5x8 .f32) (i : Fin 64) (k : Fin 32) : IsReal (tokRun W U b ze (ix2 i k)) := by
  have h : ∀ (g : FVec Ideal S64x128 .f32) (c : FVec Ideal S64x32 .f32), IsReal (tokHid g c (ix2 i k)) := fun g c => by
    pointwise [tokHid, tokSig]
    exact (isReal_logistic _).mul (isReal_tanh _)
  exact h _ _

/-- The convolution is real where the features, the taps and the bias are. -/
theorem refConv_real (x : FVec Ideal S64x128x192 .f32) (z : IVec S64x5 32) (emb : FVec Ideal S184x8 .f32) (Wf : FVec Ideal S8x128 .f32)
    (Uf : FVec Ideal S32x128 .f32) (bf : FVec Ideal S128 .f32) (Wb : FVec Ideal S8x128 .f32) (Ub : FVec Ideal S32x128 .f32)
    (bb : FVec Ideal S128 .f32) (Wc : FVec Ideal S2x256x128 .f32) (bc : FVec Ideal S128 .f32)
    (rx : ∀ i, IsReal (x i)) (rWc : ∀ i, IsReal (Wc i)) (rbc : ∀ i, IsReal (bc i)) (b : Fin 64) (t j : Fin 128) :
    IsReal (refConv x z emb Wf Uf bf Wb Ub bb Wc bc (ix3 b t j)) := by
  have ht : ∀ p t, IsReal (tapSum x (tokRun Wf Uf bf (Cert.ReferenceIdeal.Hand.takeRows emb z))
      (tokRun Wb Ub bb (Host.reverse [1] (Cert.ReferenceIdeal.Hand.takeRows emb z))) Wc p b t j) := fun p t =>
    (isReal_sum _ _ fun k => (rx _).mul (rWc _)).add
      ((isReal_sum _ _ fun k => (tokRun_real _ _ _ _ _ _).mul (rWc _)).add (isReal_sum _ _ fun k => (tokRun_real _ _ _ _ _ _).mul (rWc _)))
  unfold refConv
  rw [conv_ref]
  unfold convVal
  refine IsReal.max (((ht 0 t).add ?_).add (rbc _)) isReal_zero
  split
  · exact ht 1 _
  · exact isReal_zero

/-- Both programs compute the same result of arguments whose tokens name rows of the table and whose features and weights up to
    the frames' LSTM's inputs are real. -/
theorem out_eq (x : FVec Ideal S64x128x192 .f32) (z : IVec S64x5 32) (emb : FVec Ideal S184x8 .f32) (Wf : FVec Ideal S8x128 .f32)
    (Uf : FVec Ideal S32x128 .f32) (bf : FVec Ideal S128 .f32) (Wb : FVec Ideal S8x128 .f32) (Ub : FVec Ideal S32x128 .f32)
    (bb : FVec Ideal S128 .f32) (Wc : FVec Ideal S2x256x128 .f32) (bc : FVec Ideal S128 .f32) (Wd : FVec Ideal S128x1024 .f32)
    (bd gamma beta : FVec Ideal S1024 .f32) (Wl : FVec Ideal S1024x40 .f32) (Ul : FVec Ideal S10x40 .f32) (bl : FVec Ideal S40 .f32)
    (hz : ∀ i, 0 ≤ (z i).toInt ∧ (z i).toInt < 184) (rx : ∀ i, IsReal (x i)) (rWc : ∀ i, IsReal (Wc i)) (rbc : ∀ i, IsReal (bc i))
    (rWd : ∀ i, IsReal (Wd i)) (rbd : ∀ i, IsReal (bd i)) (rg : ∀ i, IsReal (gamma i)) (rWl : ∀ i, IsReal (Wl i)) :
    kernelOut (F := Ideal) x z emb Wf Uf bf Wb Ub bb Wc bc Wd bd gamma beta Wl Ul bl
      = refOut x z emb Wf Uf bf Wb Ub bb Wc bc Wd bd gamma beta Wl Ul bl := by
  have key := states_eq (Hand.gateRows (F := Ideal) Wd (shapeCast S1x1024 bd shapeCasts_S1024_S1x1024)
      (shapeCast S1024x1 bd shapeCasts_S1024_S1024x1) (shapeCast S1x1024 gamma shapeCasts_S1024_S1x1024)
      (shapeCast S1024x1 gamma shapeCasts_S1024_S1024x1) (shapeCast S1x1024 beta shapeCasts_S1024_S1x1024) (eWl Wl) (eBl bl)
      (Hand.convRows (eTok z) (shapeCast S8192x192 x shapeCasts_S64x128x192_S8192x192) emb Wf Uf (shapeCast S1x128 bf shapeCasts_S128_S1x128)
        Wb Ub (shapeCast S1x128 bb shapeCasts_S128_S1x128) (eWx0 Wc) (eWx1 Wc) (eWz0 Wc) (eWz1 Wc) (shapeCast S1x128 bc shapeCasts_S128_S1x128)))
    (refRows (refConv x z emb Wf Uf bf Wb Ub bb Wc bc) Wd bd gamma beta) Wl Ul bl
    (fun t c b r hr => gate_eq _ (refConv x z emb Wf Uf bf Wb Ub bb Wc bc) Wd bd gamma beta (eWl Wl) (eBl bl)
      (fun b t j r hr => conv_eq x z emb Wf Uf bf Wb Ub bb Wc bc (fun b t => hz _) b t j r hr)
      (refConv_real x z emb Wf Uf bf Wb Ub bb Wc bc rx rWc rbc) (fun _ _ => rWd _) (fun _ => rbd _) (fun _ => rg _)
      (eWl_real Wl fun _ _ => rWl _) t c b r hr) 128 (le_refl _)
  funext j
  have h52 : ∀ (h : FVec Ideal S16x64 .f32) (b : Fin 64) (i : Fin 10), Gen.k0_pay52 h (ix2 b i) = h (ix2 (⟨i.val, by omega⟩ : Fin 16) b) := fun h b i => by
    pointwise [Gen.k0_pay52]
  have hj : j = ix2 (j 0) (j 1) := by
    funext a
    match a with
    | 0 => rfl
    | 1 => rfl
  rw [hj]
  exact (h52 _ (j 0) (j 1)).trans (key (j 1) (j 0)).1

end Cert.Join

end
-- ==== Proof.PreFacts.lean ====
/-
  The side conditions the precondition's operations state: each is a closed fact about two shapes.
-/
module

public import proofs.«01_k».proof.Pre_finite

@[expose] public section

namespace Cert.Pre_finite

/-- The shape relations the precondition's broadcasts and reductions take. -/
instance preFacts : Cert.Pre_finite.Facts where
  bcast_S_S64x5 := by decide
  reducesTo_S64x5_S_d0_1 := by decide
  h_S_ := by decide
  bcast_S_S64x128x192 := by decide
  reducesTo_S64x128x192_S_d0_1_2 := by decide
  bcast_S_S2x256x128 := by decide
  reducesTo_S2x256x128_S_d0_1_2 := by decide
  bcast_S_S128 := by decide
  reducesTo_S128_S_d0 := by decide
  bcast_S_S128x1024 := by decide
  reducesTo_S128x1024_S_d0_1 := by decide
  bcast_S_S1024 := by decide
  reducesTo_S1024_S_d0 := by decide
  bcast_S_S1024x40 := by decide
  reducesTo_S1024x40_S_d0_1 := by decide

end Cert.Pre_finite
-- ==== Proof.Join.Pre.lean ====
/-
  What the precondition says of the arguments' elements.
-/
module

public import proofs.«01_k».proof.Proof.PreFacts
public import proofs.«01_k».proof.Proof.Join.Real
public import Idealize.ShloMosaic.Lib.ReduceAll

@[expose] public section

set_option maxRecDepth 16384

noncomputable section

namespace Cert.Join

open Idealize.ShloMosaic Cert.Pre_finite

/-- The pattern of infinity. -/
theorem bits_inf : Ideal.ofBits .f32 0x7F800000#32 = ⊤ := by
  simp [Ideal.ofBits, Ideal.ieee]

/-- A number whose absolute value lies below infinity is real. -/
theorem isReal_of_abs (a : EReal) (h : Ideal.cmp .olt (max a (-a)) (Ideal.ofBits .f32 0x7F800000#32) = 1#1) : IsReal a := by
  rw [bits_inf] at h
  have hl : max a (-a) < ⊤ := of_decide_eq_true ((WordCmp.ofBool_eq_one_iff _).mp h)
  obtain ⟨h1, h2⟩ := max_lt_iff.mp hl
  induction a with
  | bot => exact absurd h2 (by rw [EReal.neg_bot]; exact lt_irrefl _)
  | coe r => exact isReal_coe r
  | top => exact absurd h1 (lt_irrefl _)

/-- An array whose absolute values all compare below infinity holds real numbers. -/
theorem reals_of_all {s : Shape} {axes : List (Fin s.rank)} (a : FVec Ideal s .f32) (hb : S_.BroadcastsInDim s (![] : Fin 0 → Fin s.rank))
    (hr : s.ReducesTo axes S_) (hu : 0 < S_.numel) (j : S_.Idx)
    (h : Host.reduce IntOp.andi (cmpf .olt (Host.absf a) (broadcastInDim s ![] hb (constant S_ .f32 0x7F800000#32))) (constantI S_ 1 1#1) hr hu j = 1#1)
    (i : s.Idx) : IsReal (a i) :=
  isReal_of_abs (a i) (Host.reduce_andi_all _ _ hr hu j h i)

/-- What the precondition says: the tokens name rows of the table, and the frames' features and the weights up to the frames'
    LSTM's inputs, the shift of the normalisation aside, are real numbers. -/
theorem pre_facts (x : FVec Ideal S64x128x192 .f32) (z : IVec S64x5 32) (a2 : IVec S_ 1) (emb : FVec Ideal S184x8 .f32) (Wf : FVec Ideal S8x128 .f32)
    (Uf : FVec Ideal S32x128 .f32) (bf : FVec Ideal S128 .f32) (Wb : FVec Ideal S8x128 .f32) (Ub : FVec Ideal S32x128 .f32)
    (bb : FVec Ideal S128 .f32) (Wc : FVec Ideal S2x256x128 .f32) (bc : FVec Ideal S128 .f32) (Wd : FVec Ideal S128x1024 .f32)
    (bd gamma beta : FVec Ideal S1024 .f32) (Wl : FVec Ideal S1024x40 .f32) (Ul : FVec Ideal S10x40 .f32) (bl : FVec Ideal S40 .f32)
    (h : fn x z a2 emb Wf Uf bf Wb Ub bb Wc bc Wd bd gamma beta Wl Ul bl = fun _ => 1#1) :
    (∀ i, 0 ≤ (z i).toInt ∧ (z i).toInt < 184) ∧ (∀ i, IsReal (x i)) ∧ (∀ i, IsReal (Wc i)) ∧ (∀ i, IsReal (bc i))
      ∧ (∀ i, IsReal (Wd i)) ∧ (∀ i, IsReal (bd i)) ∧ (∀ i, IsReal (gamma i)) ∧ (∀ i, IsReal (Wl i)) := by
  have h0 := congrFun h ix0
  simp only [fn, fn_part1, fn_part2, andi_apply, IntOp.andi_eq_one] at h0
  obtain ⟨⟨⟨⟨⟨⟨⟨hz, hx⟩, hWc⟩, hbc⟩, hWd⟩, hbd⟩, hg⟩, hWl⟩ := h0
  refine ⟨fun i => ?_, reals_of_all x _ _ _ _ hx, reals_of_all Wc _ _ _ _ hWc, reals_of_all bc _ _ _ _ hbc, reals_of_all Wd _ _ _ _ hWd,
    reals_of_all bd _ _ _ _ hbd, reals_of_all gamma _ _ _ _ hg, reals_of_all Wl _ _ _ _ hWl⟩
  obtain ⟨h1, h2⟩ := IntOp.andi_eq_one.mp (Host.reduce_andi_all _ _ _ _ _ hz i)
  exact ⟨IntOp.cmpi_sge.mp h1, IntOp.cmpi_slt.mp h2⟩

end Cert.Join

end
-- ==== Proof.Join.Value.lean ====
/-
  The value claim: from arguments that agree and meet the precondition, both programs end with the same result.
-/
module

public import proofs.«01_k».proof.Defs
public import proofs.«01_k».proof.Proof.Join.Final
public import proofs.«01_k».proof.Proof.Join.Pre

@[expose] public section

set_option maxRecDepth 16384

noncomputable section

namespace Cert.Join

open Idealize.ShloMosaic Idealize.SL.Sem

/-- The kernel ends with its result array at `kernelOut` of its arguments and the arguments unchanged; the reference ends with
    `refOut` of the same arguments; the two are equal. -/
theorem algebraic : Cert.algebraic_KernelIdeal_ReferenceIdeal_pre_finite := by
  intro m g m' g' hpre hargs
  refine ⟨fun c => Cert.KernelIdeal.Hand.result m c, ?_, ?_⟩
  · refine (θ_run _ _ _).mono (fun r h c => ⟨?_, h.2 c⟩)
      (θ_run_and (Cert.KernelIdeal.Hand.run_main m g) (Cert.KernelIdeal.Hand.unchanged m g))
    exact ((h.1 c).1 23).trans (Cert.KernelIdeal.Hand.arrAt_result m c)
  · refine (θ_run _ _ _).mono (fun r h c => ⟨?_, (h c).2⟩) (Cert.ReferenceIdeal.Value.run (F := Ideal) m' g')
    refine (h c).1.trans (((Cert.ReferenceIdeal.Hand.carries_entry m' c).iterate 128).h5.trans ?_)
    obtain ⟨h0, h1, h2, h3, h4, h5, h6, h7, h8, h9, h10, h11, h12, h13, h14, h15, h16, h17, h18⟩ := hargs c
    obtain ⟨hz, rx, rWc, rbc, rWd, rbd, rg, rWl⟩ := pre_facts _ _ _ _ _ _ _ _ _ _ _ _ _ _ _ _ _ _ _ (hpre c)
    rw [h0, h1, h3, h4, h5, h6, h7, h8, h9, h10, h11, h12, h13, h14, h15, h16, h17, h18]
    exact ((Cert.KernelIdeal.Hand.result_eq m c).trans (out_eq _ _ _ _ _ _ _ _ _ _ _ _ _ _ _ _ _ _ hz rx rWc rbc rWd rbd rg rWl)).symm

end Cert.Join

end
-- ==== Proof.lean ====
module

public import proofs.«01_k».proof.Defs
public import proofs.«01_k».proof.Proof.RefFrame
public import proofs.«01_k».proof.Proof.Bits.Launch
public import proofs.«01_k».proof.Proof.Ideal.Launch
public import proofs.«01_k».proof.Proof.Join.Value
public import Idealize.ShloMosaic.Adequacy
public import Idealize.ShloMosaic.Init

@[expose] public section

noncomputable section

namespace Cert.Proof

/-- The certificate's claim: each program leaves its arguments unchanged and its counters at zero, the printed kernel and its
    ideal reading are the same program, and from arguments that meet the precondition the kernel's result is the reference's. -/
theorem claim : Cert.Claim := ⟨Cert.Kernel.Gen.facts, Cert.KernelIdeal.Gen.facts, Cert.ReferenceIdeal.Gen.facts, Cert.Pre_finite.preFacts,
  fun m g _ => Cert.Kernel.Hand.frame m g, fun m g _ => Cert.KernelIdeal.Hand.frame m g, fun m g _ => Cert.KernelIdeal.Hand.frame m g,
  Cert.ReferenceIdeal.Hand.frame, fun m g _ => Cert.ReferenceIdeal.Hand.frame m g trivial, trivial, Cert.Join.algebraic⟩

end Cert.Proof

end
